-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_in_range [hPre_in_range : Cert.Pre_in_range.Facts] (m : (ℓ : Loc Cert.KernelIdeal.nD Cert.KernelIdeal.τ Cert.KernelIdeal.sig) → Buf (Elt Ideal) ℓ) : Prop :=
  ∀ c : Dev Cert.KernelIdeal.nD,
    (Cert.Pre_in_range.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_in_range [hPre_in_range : Cert.Pre_in_range.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_in_range.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (Cert.Kernel.threads (F := Bits)) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (Cert.KernelIdeal.threads (F := Ideal)) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ r.2.sem = fun _ => 0)

def quiescent_KernelIdeal_pre_in_range [hKernelIdeal : Cert.KernelIdeal.Facts] [hPre_in_range : Cert.Pre_in_range.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_in_range m →
    θ_run (Cert.KernelIdeal.defs (F := Ideal)) (Cert.KernelIdeal.threads (F := Ideal)) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))
      ∧ r.2.sem = fun _ => 0)

def quiescent_ReferenceIdeal_pre_in_range [hReferenceIdeal : Cert.ReferenceIdeal.Facts] [hPre_in_range : Cert.Pre_in_range.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_in_range m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))
      ∧ r.2.sem = fun _ => 0)

def preserves_Kernel_KernelIdeal : Prop :=
  True

def algebraic_KernelIdeal_ReferenceIdeal_pre_in_range [hKernelIdeal : Cert.KernelIdeal.Facts] [hReferenceIdeal : Cert.ReferenceIdeal.Facts] [hPre_in_range : Cert.Pre_in_range.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_in_range m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) →
    ∃ (v0 : (c : Dev Cert.KernelIdeal.nD) → Buf (Elt Ideal) ((c.tc : Thread Cert.KernelIdeal.nD Cert.KernelIdeal.τ).loc Cert.KernelIdeal.main_v10)) (v1 : (c : Dev Cert.KernelIdeal.nD) → Buf (Elt Ideal) ((c.tc : Thread Cert.KernelIdeal.nD Cert.KernelIdeal.τ).loc Cert.KernelIdeal.main_v11)),
      θ_run (Cert.KernelIdeal.defs (F := Ideal)) (Cert.KernelIdeal.threads (F := Ideal)) ⟨m, fun _ => 0, g⟩ (fun r => ∀ c : Dev Cert.KernelIdeal.nD,
          r.2.mem ((c.tc : Thread Cert.KernelIdeal.nD Cert.KernelIdeal.τ).loc Cert.KernelIdeal.main_v10) = v0 c
          ∧ r.2.mem ((c.tc : Thread Cert.KernelIdeal.nD Cert.KernelIdeal.τ).loc Cert.KernelIdeal.main_v11) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v127) = v0 c
          ∧ r.2.mem ((c.tc : Thread Cert.ReferenceIdeal.nD Cert.ReferenceIdeal.τ).loc Cert.ReferenceIdeal.main_v34) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7))

def Claim : Prop :=
  ∃ (hKernel : Cert.Kernel.Facts) (hKernelIdeal : Cert.KernelIdeal.Facts) (hReferenceIdeal : Cert.ReferenceIdeal.Facts) (hPre_in_range : Cert.Pre_in_range.Facts),
    quiescent_Kernel (hKernel := hKernel)
    ∧ quiescent_KernelIdeal (hKernelIdeal := hKernelIdeal)
    ∧ quiescent_KernelIdeal_pre_in_range (hKernelIdeal := hKernelIdeal) (hPre_in_range := hPre_in_range)
    ∧ quiescent_ReferenceIdeal (hReferenceIdeal := hReferenceIdeal)
    ∧ quiescent_ReferenceIdeal_pre_in_range (hReferenceIdeal := hReferenceIdeal) (hPre_in_range := hPre_in_range)
    ∧ preserves_Kernel_KernelIdeal
    ∧ algebraic_KernelIdeal_ReferenceIdeal_pre_in_range (hKernelIdeal := hKernelIdeal) (hReferenceIdeal := hReferenceIdeal) (hPre_in_range := hPre_in_range)
-- ==== Pre_in_range.lean ====
abbrev S512x19x19 : Shape := ⟨3, ![512, 19, 19]⟩
abbrev S512x361x361 : Shape := ⟨3, ![512, 361, 361]⟩
abbrev S512x2 : Shape := ⟨2, ![512, 2]⟩
abbrev S512 : Shape := ⟨1, ![512]⟩
abbrev S512x361 : Shape := ⟨2, ![512, 361]⟩
abbrev S512x19x19x4 : Shape := ⟨4, ![512, 19, 19, 4]⟩
abbrev S_ : Shape := ⟨0, ![]⟩

class Facts : Prop where
  bcast_S_S512 : S_.BroadcastsInDim S512 (![] : Fin 0 → Fin S512.rank)
  reducesTo_S512_S_d0 : S512.ReducesTo [0] S_
  h_S_ : 0 < S_.numel

variable [Facts]

def fn {F : FTy → Type} [FloatOps F] (main_arg0 : FVec F S512x19x19 .f32) (main_arg1 : FVec F S512x361x361 .f32) (main_arg2 : IVec S512x2 32) (main_arg3 : IVec S512 32) (main_arg4 : IVec S512 32) (main_arg5 : IVec S512 32) (main_arg6 : IVec S512x361 32) (main_arg7 : IVec S512x19x19x4 32) : IVec S_ 1 :=
  let main_c : IVec S_ 32 := constantI S_ 32 0#32
  let main_v0 : IVec S512 32 := broadcastInDim S512 ![] bcast_S_S512 main_c
  let main_v1 : IVec S512 1 := cmpi .sge main_arg5 main_v0
  let main_c_0 : IVec S_ 1 := constantI S_ 1 1#1
  let main_v2 : IVec S_ 1 := (fun x v => Host.reduce IntOp.andi x v reducesTo_S512_S_d0 h_S_) main_v1 main_c_0
  main_v2
-- ==== Kernel.lean ====
abbrev S512x19x19 : Shape := ⟨3, ![512, 19, 19]⟩
abbrev S512x361x361 : Shape := ⟨3, ![512, 361, 361]⟩
abbrev S512x2 : Shape := ⟨2, ![512, 2]⟩
abbrev S512 : Shape := ⟨1, ![512]⟩
abbrev S512x361 : Shape := ⟨2, ![512, 361]⟩
abbrev S512x19x19x4 : Shape := ⟨4, ![512, 19, 19, 4]⟩
abbrev S361x361x512 : Shape := ⟨3, ![361, 361, 512]⟩
abbrev S19x19x512 : Shape := ⟨3, ![19, 19, 512]⟩
abbrev S361x512 : Shape := ⟨2, ![361, 512]⟩
abbrev S_ : Shape := ⟨0, ![]⟩
abbrev S368x512 : Shape := ⟨2, ![368, 512]⟩
abbrev S2x512 : Shape := ⟨2, ![2, 512]⟩
abbrev S19x19x4x512 : Shape := ⟨4, ![19, 19, 4, 512]⟩
abbrev S1x512 : Shape := ⟨2, ![1, 512]⟩
abbrev S19x361x512 : Shape := ⟨3, ![19, 361, 512]⟩
abbrev S19x1x1 : Shape := ⟨3, ![19, 1, 1]⟩
abbrev S1x1x512 : Shape := ⟨3, ![1, 1, 512]⟩
abbrev S19x1x512 : Shape := ⟨3, ![19, 1, 512]⟩
abbrev S1x361x512 : Shape := ⟨3, ![1, 361, 512]⟩
abbrev S19x512 : Shape := ⟨2, ![19, 512]⟩
abbrev S40x512 : Shape := ⟨2, ![40, 512]⟩
abbrev S19x4x512 : Shape := ⟨3, ![19, 4, 512]⟩
abbrev S4x512 : Shape := ⟨2, ![4, 512]⟩
abbrev S1x19x512 : Shape := ⟨3, ![1, 19, 512]⟩
abbrev S16 : Shape := ⟨1, ![16]⟩
abbrev S1x19x4x512 : Shape := ⟨4, ![1, 19, 4, 512]⟩
abbrev S1x16 : Shape := ⟨2, ![1, 16]⟩

abbrev nBuf : Table → Nat
  | .hbm => 21
  | .local .tc .vmem => 6
  | .local .scVector .vmem => 7
  | _ => 0

abbrev bufTy : (tb : Table) → Fin (nBuf tb) → BufTy
  | .hbm, ⟨0, _⟩ => ⟨S512x19x19, .f32⟩
  | .hbm, ⟨1, _⟩ => ⟨S512x361x361, .f32⟩
  | .hbm, ⟨2, _⟩ => ⟨S512x2, .i32⟩
  | .hbm, ⟨3, _⟩ => ⟨S512, .i32⟩
  | .hbm, ⟨4, _⟩ => ⟨S512, .i32⟩
  | .hbm, ⟨5, _⟩ => ⟨S512, .i32⟩
  | .hbm, ⟨6, _⟩ => ⟨S512x361, .i32⟩
  | .hbm, ⟨7, _⟩ => ⟨S512x19x19x4, .i32⟩
  | .hbm, ⟨8, _⟩ => ⟨S361x361x512, .f32⟩
  | .hbm, ⟨9, _⟩ => ⟨S19x19x512, .f32⟩
  | .hbm, ⟨10, _⟩ => ⟨S361x512, .f32⟩
  | .hbm, ⟨11, _⟩ => ⟨S361x512, .i32⟩
  | .hbm, ⟨12, _⟩ => ⟨S_, .i32⟩
  | .hbm, ⟨13, _⟩ => ⟨S368x512, .i32⟩
  | .hbm, ⟨14, _⟩ => ⟨S2x512, .i32⟩
  | .hbm, ⟨15, _⟩ => ⟨S19x19x4x512, .i32⟩
  | .hbm, ⟨16, _⟩ => ⟨S1x512, .i32⟩
  | .hbm, ⟨17, _⟩ => ⟨S361x361x512, .f32⟩
  | .hbm, ⟨18, _⟩ => ⟨S19x19x512, .f32⟩
  | .hbm, ⟨19, _⟩ => ⟨S512x19x19, .f32⟩
  | .hbm, ⟨20, _⟩ => ⟨S512x361x361, .f32⟩
  | .local .tc .vmem, ⟨0, _⟩ => ⟨S1x512, .i32⟩
  | .local .tc .vmem, ⟨1, _⟩ => ⟨S361x512, .f32⟩
  | .local .tc .vmem, ⟨2, _⟩ => ⟨S19x361x512, .f32⟩
  | .local .tc .vmem, ⟨3, _⟩ => ⟨S19x361x512, .f32⟩
  | .local .tc .vmem, ⟨4, _⟩ => ⟨S19x361x512, .f32⟩
  | .local .tc .vmem, ⟨5, _⟩ => ⟨S19x361x512, .f32⟩
  | .local .scVector .vmem, ⟨0, _⟩ => ⟨S19x512, .f32⟩
  | .local .scVector .vmem, ⟨1, _⟩ => ⟨S40x512, .i32⟩
  | .local .scVector .vmem, ⟨2, _⟩ => ⟨S19x4x512, .i32⟩
  | .local .scVector .vmem, ⟨3, _⟩ => ⟨S4x512, .i32⟩
  | .local .scVector .vmem, ⟨4, _⟩ => ⟨S512, .i32⟩
  | .local .scVector .vmem, ⟨5, _⟩ => ⟨S512, .i32⟩
  | .local .scVector .vmem, ⟨6, _⟩ => ⟨S512, .i32⟩
  | _, _ => ⟨S512x19x19, .f32⟩

abbrev bufScoped : (cs : CoreSpace) → Fin (nBuf (.local .tc cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 4 → Bool
  | ⟨0, _⟩ => false
  | ⟨1, _⟩ => false
  | ⟨2, _⟩ => false
  | ⟨3, _⟩ => false
  | _ => false

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => false
  | ⟨7, _⟩ => false
  | ⟨8, _⟩ => false
  | ⟨9, _⟩ => false
  | ⟨10, _⟩ => false
  | ⟨11, _⟩ => false
  | ⟨12, _⟩ => false
  | _ => false

abbrev sig : RefSig :=
  ofTables nBuf rfl bufTy 4 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_c : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v1_scv : Ref sig .scVector := ⟨.hbm, 9, rfl⟩
abbrev main_v4_scv : Ref sig .scVector := ⟨.hbm, 13, rfl⟩
abbrev main_v5_scv : Ref sig .scVector := ⟨.hbm, 14, rfl⟩
abbrev main_arg3_scv : Ref sig .scVector := ⟨.hbm, 3, rfl⟩
abbrev main_v6_scv : Ref sig .scVector := ⟨.hbm, 15, rfl⟩
abbrev main_v9_scv : Ref sig .scVector := ⟨.hbm, 18, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg2_1 : Ref sig .tc := ⟨.vmem, 3, rfl⟩
abbrev cc0_stg3_0 : Ref sig .tc := ⟨.vmem, 4, rfl⟩
abbrev cc0_stg3_1 : Ref sig .tc := ⟨.vmem, 5, rfl⟩
abbrev cc1_scratch0 : Ref sig .scVector := ⟨.vmem, 0, rfl⟩
abbrev cc1_scratch1 : Ref sig .scVector := ⟨.vmem, 1, rfl⟩
abbrev cc1_scratch2 : Ref sig .scVector := ⟨.vmem, 2, rfl⟩
abbrev cc1_scratch3 : Ref sig .scVector := ⟨.vmem, 3, rfl⟩
abbrev cc1_scratch4 : Ref sig .scVector := ⟨.vmem, 4, rfl⟩
abbrev cc1_scratch5 : Ref sig .scVector := ⟨.vmem, 5, rfl⟩
abbrev cc1_scratch6 : Ref sig .scVector := ⟨.vmem, 6, rfl⟩
abbrev cc0_sem0_0 : DmaSem sig := 0
abbrev cc0_sem1_0 : DmaSem sig := 1
abbrev cc0_sem2_0 : DmaSem sig := 2
abbrev cc0_sem2_1 : DmaSem sig := 3
abbrev cc0_sem3_0 : DmaSem sig := 4
abbrev cc0_sem3_1 : DmaSem sig := 5
abbrev sc_start : Sem sig := 0
abbrev sc_done : Sem sig := 1
abbrev sc_go : Sem sig := 2
abbrev sc_taskDone : Sem sig := 3

abbrev nD : Nat := 1
abbrev τ : Topo := Topo.v7x

variable {F : FTy → Type} [FloatOps F]

abbrev grid0 : Pipeline.Grid := ⟨1, ![19], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 1 → Memref sig .tc .vmem S1x512 .i32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 1 → Memref sig .tc .vmem S361x512 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S19x361x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S19x361x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev grid1 : Pipeline.Grid := ⟨2, ![2, 16], ![false, false]⟩

def k1_cond1 (i : grid1.Coords) : BitVec 1 :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c19_i32 : BitVec 32 := 19#32
  let v2 : BitVec 1 := Scalar.cmpi .slt v1 c19_i32
  let v3 : BitVec 32 := Scalar.extui v2
  let c0_i32 : BitVec 32 := 0#32
  let v4 : BitVec 1 := Scalar.cmpi .ne v3 c0_i32
  v4

def k1_off1 (i : grid1.Coords) : Fin 3 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32_19_r3 : BitVec 32 := 0#32
  let c0_i32_20_r3 : BitVec 32 := 0#32
  ![v1.toNat, 0, 0]
def k1_mult1 (i : grid1.Coords) : BitVec 32 :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c19_i32_1 : BitVec 32 := 19#32
  let v5 : BitVec 32 := Scalar.muli v1 c19_i32_1
  let c0_i32_2 : BitVec 32 := 0#32
  let v7 : BitVec 1 := Scalar.cmpi .sgt v5 c0_i32_2
  let v8 : BitVec 32 := Scalar.extui v7
  let c0_i32_3 : BitVec 32 := 0#32
  let v9 : BitVec 1 := Scalar.cmpi .slt v5 c0_i32_3
  let v10 : BitVec 32 := Scalar.extui v9
  let v11 : BitVec 32 := Scalar.subi v8 v10
  let c8_i32 : BitVec 32 := 8#32
  let c0_i32_4 : BitVec 32 := 0#32
  let v12 : BitVec 1 := Scalar.cmpi .sgt c8_i32 c0_i32_4
  let v13 : BitVec 32 := Scalar.extui v12
  let c0_i32_5 : BitVec 32 := 0#32
  let v14 : BitVec 1 := Scalar.cmpi .slt c8_i32 c0_i32_5
  let v15 : BitVec 32 := Scalar.extui v14
  let v16 : BitVec 32 := Scalar.subi v13 v15
  let v17 : BitVec 1 := Scalar.cmpi .ne v11 v16
  let v18 : BitVec 32 := Scalar.remsi v5 c8_i32
  let c0_i32_6 : BitVec 32 := 0#32
  let v19 : BitVec 1 := Scalar.cmpi .ne v18 c0_i32_6
  let v20 : BitVec 1 := Scalar.andi v17 v19
  let v6 : BitVec 32 := Scalar.divsi v5 c8_i32
  let c1_i32_7 : BitVec 32 := 1#32
  let v21 : BitVec 32 := Scalar.subi v6 c1_i32_7
  let v22 : BitVec 32 := Scalar.select v20 v21 v6
  let c8_i32_8 : BitVec 32 := 8#32
  let v23 : BitVec 32 := Scalar.muli v22 c8_i32_8
  let c328_i32 : BitVec 32 := 328#32
  let v24 : BitVec 32 := Scalar.minsi v23 c328_i32
  v24
def k1_off2 (i : grid1.Coords) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c19_i32_1 : BitVec 32 := 19#32
  let v5 : BitVec 32 := Scalar.muli v1 c19_i32_1
  let c0_i32_2 : BitVec 32 := 0#32
  let v7 : BitVec 1 := Scalar.cmpi .sgt v5 c0_i32_2
  let v8 : BitVec 32 := Scalar.extui v7
  let c0_i32_3 : BitVec 32 := 0#32
  let v9 : BitVec 1 := Scalar.cmpi .slt v5 c0_i32_3
  let v10 : BitVec 32 := Scalar.extui v9
  let v11 : BitVec 32 := Scalar.subi v8 v10
  let c8_i32 : BitVec 32 := 8#32
  let c0_i32_4 : BitVec 32 := 0#32
  let v12 : BitVec 1 := Scalar.cmpi .sgt c8_i32 c0_i32_4
  let v13 : BitVec 32 := Scalar.extui v12
  let c0_i32_5 : BitVec 32 := 0#32
  let v14 : BitVec 1 := Scalar.cmpi .slt c8_i32 c0_i32_5
  let v15 : BitVec 32 := Scalar.extui v14
  let v16 : BitVec 32 := Scalar.subi v13 v15
  let v17 : BitVec 1 := Scalar.cmpi .ne v11 v16
  let v18 : BitVec 32 := Scalar.remsi v5 c8_i32
  let c0_i32_6 : BitVec 32 := 0#32
  let v19 : BitVec 1 := Scalar.cmpi .ne v18 c0_i32_6
  let v20 : BitVec 1 := Scalar.andi v17 v19
  let v6 : BitVec 32 := Scalar.divsi v5 c8_i32
  let c1_i32_7 : BitVec 32 := 1#32
  let v21 : BitVec 32 := Scalar.subi v6 c1_i32_7
  let v22 : BitVec 32 := Scalar.select v20 v21 v6
  let c8_i32_8 : BitVec 32 := 8#32
  let v23 : BitVec 32 := Scalar.muli v22 c8_i32_8
  let c328_i32 : BitVec 32 := 328#32
  let v24 : BitVec 32 := Scalar.minsi v23 c328_i32
  let v25 : BitVec 32 := v24
  let c0_i32_19_r4 : BitVec 32 := 0#32
  ![v25.toNat, 0]
@[reducible] def k1_t1_loop : Scf.Loop 32 :=
  let c0_i32_11 : BitVec 32 := 0#32
  let c19_i32_12 : BitVec 32 := 19#32
  let v29 : BitVec 32 := Scalar.addi c0_i32_11 c19_i32_12
  let c1_i32_13 : BitVec 32 := 1#32
  ⟨c0_i32_11, v29, c1_i32_13⟩
def k1_off3 (k1_t1 : Fin k1_t1_loop.trips) : Fin 4 → Nat :=
  let c0_i32_11 : BitVec 32 := 0#32
  let c1_i32_13 : BitVec 32 := 1#32
  let arg15 : BitVec 32 := Scf.iv c0_i32_11 c1_i32_13 k1_t1
  let c0_i32_23_r5 : BitVec 32 := 0#32
  let c0_i32_24_r5 : BitVec 32 := 0#32
  let c0_i32_25_r5 : BitVec 32 := 0#32
  ![arg15.toNat, 0, 0, 0]
@[reducible] def k1_t2_loop : Scf.Loop 32 :=
  let c0_i32_19 : BitVec 32 := 0#32
  let c32_i32_20 : BitVec 32 := 32#32
  let v31 : BitVec 32 := Scalar.addi c0_i32_19 c32_i32_20
  let c1_i32_21 : BitVec 32 := 1#32
  ⟨c0_i32_19, v31, c1_i32_21⟩
def k1_off4 (k1_t2 : Fin k1_t2_loop.trips) : Fin 1 → Nat :=
  let c0_i32_19 : BitVec 32 := 0#32
  let c1_i32_21 : BitVec 32 := 1#32
  let arg16 : BitVec 32 := Scf.iv c0_i32_19 c1_i32_21 k1_t2
  let c16_i32 : BitVec 32 := 16#32
  let v32 : BitVec 32 := Scalar.muli arg16 c16_i32
  let v35 : Index := Scalar.indexCast v32
  ![v35.toNat]

def k1_chk1 (i : grid1.Coords) (v34 : IVec S16 32) (v46 : IVec S16 32) (v49 : IVec S16 32) : Prop :=
  (∀ (k1_h1 : k1_cond1 i = 1#1), ∀ a x, ((![v46, v49, v34] : Fin 3 → IVec S16 32) a x).toNat < S19x4x512.size a)
theorem k1_idx1_inb : ∀ (i : grid1.Coords) (v34 : IVec S16 32) (v46 : IVec S16 32) (v49 : IVec S16 32) (k1_hw1 : k1_chk1 i v34 v46 v49), ∀ (k1_h1 : k1_cond1 i = 1#1), ∀ a x, ((![v46, v49, v34] : Fin 3 → IVec S16 32) a x).toNat < S19x4x512.size a := fun i v34 v46 v49 k1_hw1 k1_h1 => k1_hw1 k1_h1
def k1_off5 (k1_t2 : Fin k1_t2_loop.trips) : Fin 2 → Nat :=
  let c0_i32_27 : BitVec 32 := 0#32
  let v51 : Index := Scalar.indexCast c0_i32_27
  let c0_i32_19 : BitVec 32 := 0#32
  let c1_i32_21 : BitVec 32 := 1#32
  let arg16 : BitVec 32 := Scf.iv c0_i32_19 c1_i32_21 k1_t2
  let c16_i32 : BitVec 32 := 16#32
  let v32 : BitVec 32 := Scalar.muli arg16 c16_i32
  let v52 : Index := Scalar.indexCast v32
  ![0, v52.toNat]

def k1_chk2 (i : grid1.Coords) (v34 : IVec S16 32) (v46 : IVec S16 32) (v58 : IVec S16 32) : Prop :=
  (∀ (k1_h1 : k1_cond1 i = 1#1), ∀ a x, ((![v46, v58, v34] : Fin 3 → IVec S16 32) a x).toNat < S19x4x512.size a)
theorem k1_idx2_inb : ∀ (i : grid1.Coords) (v34 : IVec S16 32) (v46 : IVec S16 32) (v58 : IVec S16 32) (k1_hw2 : k1_chk2 i v34 v46 v58), ∀ (k1_h1 : k1_cond1 i = 1#1), ∀ a x, ((![v46, v58, v34] : Fin 3 → IVec S16 32) a x).toNat < S19x4x512.size a := fun i v34 v46 v58 k1_hw2 k1_h1 => k1_hw2 k1_h1
def k1_off6 (k1_t2 : Fin k1_t2_loop.trips) : Fin 2 → Nat :=
  let c1_i32_30 : BitVec 32 := 1#32
  let v60 : Index := Scalar.indexCast c1_i32_30
  let c0_i32_19 : BitVec 32 := 0#32
  let c1_i32_21 : BitVec 32 := 1#32
  let arg16 : BitVec 32 := Scf.iv c0_i32_19 c1_i32_21 k1_t2
  let c16_i32 : BitVec 32 := 16#32
  let v32 : BitVec 32 := Scalar.muli arg16 c16_i32
  let v61 : Index := Scalar.indexCast v32
  ![1, v61.toNat]

def k1_chk3 (i : grid1.Coords) (v34 : IVec S16 32) (v46 : IVec S16 32) (v67 : IVec S16 32) : Prop :=
  (∀ (k1_h1 : k1_cond1 i = 1#1), ∀ a x, ((![v46, v67, v34] : Fin 3 → IVec S16 32) a x).toNat < S19x4x512.size a)
theorem k1_idx3_inb : ∀ (i : grid1.Coords) (v34 : IVec S16 32) (v46 : IVec S16 32) (v67 : IVec S16 32) (k1_hw3 : k1_chk3 i v34 v46 v67), ∀ (k1_h1 : k1_cond1 i = 1#1), ∀ a x, ((![v46, v67, v34] : Fin 3 → IVec S16 32) a x).toNat < S19x4x512.size a := fun i v34 v46 v67 k1_hw3 k1_h1 => k1_hw3 k1_h1
def k1_off7 (k1_t2 : Fin k1_t2_loop.trips) : Fin 2 → Nat :=
  let c2_i32_33 : BitVec 32 := 2#32
  let v69 : Index := Scalar.indexCast c2_i32_33
  let c0_i32_19 : BitVec 32 := 0#32
  let c1_i32_21 : BitVec 32 := 1#32
  let arg16 : BitVec 32 := Scf.iv c0_i32_19 c1_i32_21 k1_t2
  let c16_i32 : BitVec 32 := 16#32
  let v32 : BitVec 32 := Scalar.muli arg16 c16_i32
  let v70 : Index := Scalar.indexCast v32
  ![2, v70.toNat]

def k1_chk4 (i : grid1.Coords) (v34 : IVec S16 32) (v46 : IVec S16 32) (v76 : IVec S16 32) : Prop :=
  (∀ (k1_h1 : k1_cond1 i = 1#1), ∀ a x, ((![v46, v76, v34] : Fin 3 → IVec S16 32) a x).toNat < S19x4x512.size a)
theorem k1_idx4_inb : ∀ (i : grid1.Coords) (v34 : IVec S16 32) (v46 : IVec S16 32) (v76 : IVec S16 32) (k1_hw4 : k1_chk4 i v34 v46 v76), ∀ (k1_h1 : k1_cond1 i = 1#1), ∀ a x, ((![v46, v76, v34] : Fin 3 → IVec S16 32) a x).toNat < S19x4x512.size a := fun i v34 v46 v76 k1_hw4 k1_h1 => k1_hw4 k1_h1
def k1_off8 (k1_t2 : Fin k1_t2_loop.trips) : Fin 2 → Nat :=
  let c3_i32_35 : BitVec 32 := 3#32
  let v78 : Index := Scalar.indexCast c3_i32_35
  let c0_i32_19 : BitVec 32 := 0#32
  let c1_i32_21 : BitVec 32 := 1#32
  let arg16 : BitVec 32 := Scf.iv c0_i32_19 c1_i32_21 k1_t2
  let c16_i32 : BitVec 32 := 16#32
  let v32 : BitVec 32 := Scalar.muli arg16 c16_i32
  let v79 : Index := Scalar.indexCast v32
  ![3, v79.toNat]
@[reducible] def k1_t3_loop : Scf.Loop 32 :=
  let c0_i32_16 : BitVec 32 := 0#32
  let c32_i32 : BitVec 32 := 32#32
  let v30 : BitVec 32 := Scalar.addi c0_i32_16 c32_i32
  let c1_i32_17 : BitVec 32 := 1#32
  ⟨c0_i32_16, v30, c1_i32_17⟩
def k1_off9 (k1_t3 : Fin k1_t3_loop.trips) : Fin 1 → Nat :=
  let c0_i32_16 : BitVec 32 := 0#32
  let c1_i32_17 : BitVec 32 := 1#32
  let arg15 : BitVec 32 := Scf.iv c0_i32_16 c1_i32_17 k1_t3
  let c16_i32 : BitVec 32 := 16#32
  let v31 : BitVec 32 := Scalar.muli arg15 c16_i32
  let v32 : Index := Scalar.indexCast v31
  ![v32.toNat]
def k1_off10 (k1_t3 : Fin k1_t3_loop.trips) : Fin 2 → Nat :=
  let c0_i32_24 : BitVec 32 := 0#32
  let v52 : Index := Scalar.indexCast c0_i32_24
  let c0_i32_16 : BitVec 32 := 0#32
  let c1_i32_17 : BitVec 32 := 1#32
  let arg15 : BitVec 32 := Scf.iv c0_i32_16 c1_i32_17 k1_t3
  let c16_i32 : BitVec 32 := 16#32
  let v31 : BitVec 32 := Scalar.muli arg15 c16_i32
  let v53 : Index := Scalar.indexCast v31
  ![0, v53.toNat]
def k1_off11 (k1_t3 : Fin k1_t3_loop.trips) : Fin 2 → Nat :=
  let c1_i32_25 : BitVec 32 := 1#32
  let v55 : Index := Scalar.indexCast c1_i32_25
  let c0_i32_16 : BitVec 32 := 0#32
  let c1_i32_17 : BitVec 32 := 1#32
  let arg15 : BitVec 32 := Scf.iv c0_i32_16 c1_i32_17 k1_t3
  let c16_i32 : BitVec 32 := 16#32
  let v31 : BitVec 32 := Scalar.muli arg15 c16_i32
  let v56 : Index := Scalar.indexCast v31
  ![1, v56.toNat]
def k1_off12 (k1_t3 : Fin k1_t3_loop.trips) : Fin 2 → Nat :=
  let c2_i32_26 : BitVec 32 := 2#32
  let v58 : Index := Scalar.indexCast c2_i32_26
  let c0_i32_16 : BitVec 32 := 0#32
  let c1_i32_17 : BitVec 32 := 1#32
  let arg15 : BitVec 32 := Scf.iv c0_i32_16 c1_i32_17 k1_t3
  let c16_i32 : BitVec 32 := 16#32
  let v31 : BitVec 32 := Scalar.muli arg15 c16_i32
  let v59 : Index := Scalar.indexCast v31
  ![2, v59.toNat]
def k1_off13 (k1_t3 : Fin k1_t3_loop.trips) : Fin 2 → Nat :=
  let c3_i32 : BitVec 32 := 3#32
  let v61 : Index := Scalar.indexCast c3_i32
  let c0_i32_16 : BitVec 32 := 0#32
  let c1_i32_17 : BitVec 32 := 1#32
  let arg15 : BitVec 32 := Scf.iv c0_i32_16 c1_i32_17 k1_t3
  let c16_i32 : BitVec 32 := 16#32
  let v31 : BitVec 32 := Scalar.muli arg15 c16_i32
  let v62 : Index := Scalar.indexCast v31
  ![3, v62.toNat]
@[reducible] def k1_t4_loop : Scf.Loop 32 :=
  let c0_i32_27 : BitVec 32 := 0#32
  let c19_i32_28 : BitVec 32 := 19#32
  let v67 : BitVec 32 := Scalar.addi c0_i32_27 c19_i32_28
  let c1_i32_29 : BitVec 32 := 1#32
  ⟨c0_i32_27, v67, c1_i32_29⟩
def k1_off14 (k1_t3 : Fin k1_t3_loop.trips) (k1_t4 : Fin k1_t4_loop.trips) : Fin 2 → Nat :=
  let c0_i32_27 : BitVec 32 := 0#32
  let c1_i32_29 : BitVec 32 := 1#32
  let arg16 : BitVec 32 := Scf.iv c0_i32_27 c1_i32_29 k1_t4
  let v68 : Index := Scalar.indexCast arg16
  let c0_i32_16 : BitVec 32 := 0#32
  let c1_i32_17 : BitVec 32 := 1#32
  let arg15 : BitVec 32 := Scf.iv c0_i32_16 c1_i32_17 k1_t3
  let c16_i32 : BitVec 32 := 16#32
  let v31 : BitVec 32 := Scalar.muli arg15 c16_i32
  let v69 : Index := Scalar.indexCast v31
  ![v68.toNat, v69.toNat]
def k1_off15 (i : grid1.Coords) (k1_t3 : Fin k1_t3_loop.trips) (k1_t4 : Fin k1_t4_loop.trips) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c19_i32_9 : BitVec 32 := 19#32
  let v26 : BitVec 32 := Scalar.muli v1 c19_i32_9
  let c19_i32_1 : BitVec 32 := 19#32
  let v5 : BitVec 32 := Scalar.muli v1 c19_i32_1
  let c0_i32_2 : BitVec 32 := 0#32
  let v7 : BitVec 1 := Scalar.cmpi .sgt v5 c0_i32_2
  let v8 : BitVec 32 := Scalar.extui v7
  let c0_i32_3 : BitVec 32 := 0#32
  let v9 : BitVec 1 := Scalar.cmpi .slt v5 c0_i32_3
  let v10 : BitVec 32 := Scalar.extui v9
  let v11 : BitVec 32 := Scalar.subi v8 v10
  let c8_i32 : BitVec 32 := 8#32
  let c0_i32_4 : BitVec 32 := 0#32
  let v12 : BitVec 1 := Scalar.cmpi .sgt c8_i32 c0_i32_4
  let v13 : BitVec 32 := Scalar.extui v12
  let c0_i32_5 : BitVec 32 := 0#32
  let v14 : BitVec 1 := Scalar.cmpi .slt c8_i32 c0_i32_5
  let v15 : BitVec 32 := Scalar.extui v14
  let v16 : BitVec 32 := Scalar.subi v13 v15
  let v17 : BitVec 1 := Scalar.cmpi .ne v11 v16
  let v18 : BitVec 32 := Scalar.remsi v5 c8_i32
  let c0_i32_6 : BitVec 32 := 0#32
  let v19 : BitVec 1 := Scalar.cmpi .ne v18 c0_i32_6
  let v20 : BitVec 1 := Scalar.andi v17 v19
  let v6 : BitVec 32 := Scalar.divsi v5 c8_i32
  let c1_i32_7 : BitVec 32 := 1#32
  let v21 : BitVec 32 := Scalar.subi v6 c1_i32_7
  let v22 : BitVec 32 := Scalar.select v20 v21 v6
  let c8_i32_8 : BitVec 32 := 8#32
  let v23 : BitVec 32 := Scalar.muli v22 c8_i32_8
  let c328_i32 : BitVec 32 := 328#32
  let v24 : BitVec 32 := Scalar.minsi v23 c328_i32
  let v25 : BitVec 32 := v24
  let v27 : BitVec 32 := Scalar.subi v26 v25
  let c0_i32_27 : BitVec 32 := 0#32
  let c1_i32_29 : BitVec 32 := 1#32
  let arg16 : BitVec 32 := Scf.iv c0_i32_27 c1_i32_29 k1_t4
  let v71 : BitVec 32 := Scalar.addi v27 arg16
  let v72 : Index := Scalar.indexCast v71
  let c0_i32_16 : BitVec 32 := 0#32
  let c1_i32_17 : BitVec 32 := 1#32
  let arg15 : BitVec 32 := Scf.iv c0_i32_16 c1_i32_17 k1_t3
  let c16_i32 : BitVec 32 := 16#32
  let v31 : BitVec 32 := Scalar.muli arg15 c16_i32
  let v73 : Index := Scalar.indexCast v31
  ![v72.toNat, v73.toNat]
abbrev scKind : Fin 1 → Kind := fun | 0 => .scVector | ⟨_ + 1, h⟩ => absurd h (Nat.not_lt.2 (Nat.le_add_left _ _))
abbrev scNCore : Fin 1 → Nat := fun | 0 => 2 | ⟨_ + 1, h⟩ => absurd h (Nat.not_lt.2 (Nat.le_add_left _ _))
abbrev scNSub : Fin 1 → Nat := fun | 0 => 16 | ⟨_ + 1, h⟩ => absurd h (Nat.not_lt.2 (Nat.le_add_left _ _))
-- ==== ReferenceIdeal.lean ====
abbrev S512x19x19 : Shape := ⟨3, ![512, 19, 19]⟩
abbrev S512x361x361 : Shape := ⟨3, ![512, 361, 361]⟩
abbrev S512x2 : Shape := ⟨2, ![512, 2]⟩
abbrev S512 : Shape := ⟨1, ![512]⟩
abbrev S512x361 : Shape := ⟨2, ![512, 361]⟩
abbrev S512x19x19x4 : Shape := ⟨4, ![512, 19, 19, 4]⟩
abbrev S_ : Shape := ⟨0, ![]⟩
abbrev S512x1 : Shape := ⟨2, ![512, 1]⟩
abbrev S512x3 : Shape := ⟨2, ![512, 3]⟩
abbrev S512x4 : Shape := ⟨2, ![512, 4]⟩
abbrev S512x1x4 : Shape := ⟨3, ![512, 1, 4]⟩
abbrev S512x361x1 : Shape := ⟨3, ![512, 361, 1]⟩
abbrev S512x361x4 : Shape := ⟨3, ![512, 361, 4]⟩
abbrev S512x1x1 : Shape := ⟨3, ![512, 1, 1]⟩

abbrev nBuf : Space → Nat
  | .hbm => 191
  | .vmem => 0
  | .smem => 0
  | _ => 0

abbrev hbmTy0_0 (i : Nat) : BufTy := match i % 128 with
  | 0 => ⟨S512x19x19, .f32⟩
  | 1 => ⟨S512x361x361, .f32⟩
  | 2 => ⟨S512x2, .i32⟩
  | 3 => ⟨S512, .i32⟩
  | 4 => ⟨S512, .i32⟩
  | 5 => ⟨S512, .i32⟩
  | 6 => ⟨S512x361, .i32⟩
  | 7 => ⟨S512x19x19x4, .i32⟩
  | 8 => ⟨S512, .i32⟩
  | 9 => ⟨S512x361, .f32⟩
  | 10 => ⟨S_, .i32⟩
  | 11 => ⟨S512, .i32⟩
  | 12 => ⟨S512, .i1⟩
  | 13 => ⟨S_, .i32⟩
  | 14 => ⟨S_, .i32⟩
  | 15 => ⟨S_, .i32⟩
  | 16 => ⟨S512, .i32⟩
  | 17 => ⟨S512, .i32⟩
  | 18 => ⟨S_, .i32⟩
  | 19 => ⟨S512, .i32⟩
  | 20 => ⟨S512, .i32⟩
  | 21 => ⟨S_, .i32⟩
  | 22 => ⟨S512, .i32⟩
  | 23 => ⟨S512, .i1⟩
  | 24 => ⟨S_, .i32⟩
  | 25 => ⟨S512, .i32⟩
  | 26 => ⟨S512, .i32⟩
  | 27 => ⟨S512, .i32⟩
  | 28 => ⟨S_, .i32⟩
  | 29 => ⟨S512, .i32⟩
  | 30 => ⟨S512, .i1⟩
  | 31 => ⟨S_, .i32⟩
  | 32 => ⟨S512, .i32⟩
  | 33 => ⟨S512, .i32⟩
  | 34 => ⟨S512, .i32⟩
  | 35 => ⟨S512x1, .i32⟩
  | 36 => ⟨S512x1, .i32⟩
  | 37 => ⟨S512x2, .i32⟩
  | 38 => ⟨S512x361, .f32⟩
  | 39 => ⟨S512x1, .i1⟩
  | 40 => ⟨S512x361, .i1⟩
  | 41 => ⟨S512x361, .f32⟩
  | 42 => ⟨S_, .i32⟩
  | 43 => ⟨S512, .i32⟩
  | 44 => ⟨S512, .i1⟩
  | 45 => ⟨S_, .i32⟩
  | 46 => ⟨S512, .i32⟩
  | 47 => ⟨S512, .i32⟩
  | 48 => ⟨S512, .i32⟩
  | 49 => ⟨S_, .i32⟩
  | 50 => ⟨S512, .i32⟩
  | 51 => ⟨S512, .i1⟩
  | 52 => ⟨S_, .i32⟩
  | 53 => ⟨S512, .i32⟩
  | 54 => ⟨S512, .i32⟩
  | 55 => ⟨S512, .i32⟩
  | 56 => ⟨S512x1, .i32⟩
  | 57 => ⟨S512x1, .i32⟩
  | 58 => ⟨S512x2, .i32⟩
  | 59 => ⟨S512x361x361, .f32⟩
  | 60 => ⟨S512x1, .i32⟩
  | 61 => ⟨S512, .i32⟩
  | 62 => ⟨S_, .i32⟩
  | 63 => ⟨S512, .i32⟩
  | 64 => ⟨S512, .i1⟩
  | 65 => ⟨S512x1, .i32⟩
  | 66 => ⟨S512, .i32⟩
  | 67 => ⟨S_, .i32⟩
  | 68 => ⟨S512, .i32⟩
  | 69 => ⟨S512, .i1⟩
  | 70 => ⟨S512, .i1⟩
  | 71 => ⟨S512, .i1⟩
  | 72 => ⟨S512x1, .i32⟩
  | 73 => ⟨S512, .i32⟩
  | 74 => ⟨S_, .i32⟩
  | 75 => ⟨S_, .i32⟩
  | 76 => ⟨S_, .i32⟩
  | 77 => ⟨S512, .i32⟩
  | 78 => ⟨S512, .i32⟩
  | 79 => ⟨S_, .i32⟩
  | 80 => ⟨S512, .i32⟩
  | 81 => ⟨S512, .i32⟩
  | 82 => ⟨S512x1, .i32⟩
  | 83 => ⟨S512, .i32⟩
  | 84 => ⟨S_, .i32⟩
  | 85 => ⟨S_, .i32⟩
  | 86 => ⟨S_, .i32⟩
  | 87 => ⟨S512, .i32⟩
  | 88 => ⟨S512, .i32⟩
  | 89 => ⟨S_, .i32⟩
  | 90 => ⟨S512, .i32⟩
  | 91 => ⟨S512, .i32⟩
  | 92 => ⟨S512, .f32⟩
  | 93 => ⟨S_, .i32⟩
  | 94 => ⟨S512, .i32⟩
  | 95 => ⟨S512, .i1⟩
  | 96 => ⟨S_, .i32⟩
  | 97 => ⟨S512, .i32⟩
  | 98 => ⟨S512, .i32⟩
  | 99 => ⟨S512, .i32⟩
  | 100 => ⟨S_, .i32⟩
  | 101 => ⟨S512, .i32⟩
  | 102 => ⟨S512, .i1⟩
  | 103 => ⟨S_, .i32⟩
  | 104 => ⟨S512, .i32⟩
  | 105 => ⟨S512, .i32⟩
  | 106 => ⟨S512, .i32⟩
  | 107 => ⟨S_, .i32⟩
  | 108 => ⟨S512, .i32⟩
  | 109 => ⟨S512, .i1⟩
  | 110 => ⟨S_, .i32⟩
  | 111 => ⟨S512, .i32⟩
  | 112 => ⟨S512, .i32⟩
  | 113 => ⟨S512, .i32⟩
  | 114 => ⟨S512x1, .i32⟩
  | 115 => ⟨S512x1, .i32⟩
  | 116 => ⟨S512x1, .i32⟩
  | 117 => ⟨S512x3, .i32⟩
  | 118 => ⟨S512, .f32⟩
  | 119 => ⟨S512, .f32⟩
  | 120 => ⟨S_, .i32⟩
  | 121 => ⟨S512, .i32⟩
  | 122 => ⟨S512, .i1⟩
  | 123 => ⟨S_, .i32⟩
  | 124 => ⟨S512, .i32⟩
  | 125 => ⟨S512, .i32⟩
  | 126 => ⟨S512, .i32⟩
  | 127 => ⟨S_, .i32⟩
  | _ => ⟨S512x19x19, .f32⟩

abbrev hbmTy0_1 (i : Nat) : BufTy := match i % 128 with
  | 0 => ⟨S512, .i32⟩
  | 1 => ⟨S512, .i1⟩
  | 2 => ⟨S_, .i32⟩
  | 3 => ⟨S512, .i32⟩
  | 4 => ⟨S512, .i32⟩
  | 5 => ⟨S512, .i32⟩
  | 6 => ⟨S_, .i32⟩
  | 7 => ⟨S512, .i32⟩
  | 8 => ⟨S512, .i1⟩
  | 9 => ⟨S_, .i32⟩
  | 10 => ⟨S512, .i32⟩
  | 11 => ⟨S512, .i32⟩
  | 12 => ⟨S512, .i32⟩
  | 13 => ⟨S512x1, .i32⟩
  | 14 => ⟨S512x1, .i32⟩
  | 15 => ⟨S512x1, .i32⟩
  | 16 => ⟨S512x3, .i32⟩
  | 17 => ⟨S512x19x19, .f32⟩
  | 18 => ⟨S_, .i32⟩
  | 19 => ⟨S512, .i32⟩
  | 20 => ⟨S512, .i1⟩
  | 21 => ⟨S_, .i32⟩
  | 22 => ⟨S512, .i32⟩
  | 23 => ⟨S512, .i32⟩
  | 24 => ⟨S512, .i32⟩
  | 25 => ⟨S_, .i32⟩
  | 26 => ⟨S512, .i32⟩
  | 27 => ⟨S512, .i1⟩
  | 28 => ⟨S_, .i32⟩
  | 29 => ⟨S512, .i32⟩
  | 30 => ⟨S512, .i32⟩
  | 31 => ⟨S512, .i32⟩
  | 32 => ⟨S_, .i32⟩
  | 33 => ⟨S512, .i32⟩
  | 34 => ⟨S512, .i1⟩
  | 35 => ⟨S_, .i32⟩
  | 36 => ⟨S512, .i32⟩
  | 37 => ⟨S512, .i32⟩
  | 38 => ⟨S512, .i32⟩
  | 39 => ⟨S512x1, .i32⟩
  | 40 => ⟨S512x1, .i32⟩
  | 41 => ⟨S512x1, .i32⟩
  | 42 => ⟨S512x3, .i32⟩
  | 43 => ⟨S512x4, .i32⟩
  | 44 => ⟨S512x1x4, .i32⟩
  | 45 => ⟨S512x361x1, .i32⟩
  | 46 => ⟨S512x361x4, .i32⟩
  | 47 => ⟨S512x361x4, .i32⟩
  | 48 => ⟨S512x361x4, .i1⟩
  | 49 => ⟨S_, .i32⟩
  | 50 => ⟨S512x1x4, .i32⟩
  | 51 => ⟨S512x1x4, .i1⟩
  | 52 => ⟨S512x361x4, .i1⟩
  | 53 => ⟨S512x361x4, .i1⟩
  | 54 => ⟨S_, .i1⟩
  | 55 => ⟨S512x361, .i1⟩
  | 56 => ⟨S512x19x19, .i1⟩
  | 57 => ⟨S512x1x1, .i1⟩
  | 58 => ⟨S512x19x19, .i1⟩
  | 59 => ⟨S512x19x19, .i1⟩
  | 60 => ⟨S_, .f32⟩
  | 61 => ⟨S512x19x19, .f32⟩
  | 62 => ⟨S512x19x19, .f32⟩
  | _ => ⟨S512x19x19, .f32⟩

abbrev hbmTy (i : Nat) : BufTy := match i / 128 with
  | 0 => hbmTy0_0 i
  | 1 => hbmTy0_1 i
  | _ => ⟨S512x19x19, .f32⟩

abbrev bufTy : (tb : Table) → Fin (tcTables nBuf tb) → BufTy
  | .hbm, ⟨i, _⟩ => hbmTy i
  | _, _ => ⟨S512x19x19, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_c : Ref sig .tc := ⟨.hbm, 10, rfl⟩
abbrev main_v2 : Ref sig .tc := ⟨.hbm, 11, rfl⟩
abbrev main_v3 : Ref sig .tc := ⟨.hbm, 12, rfl⟩
abbrev main_c_0 : Ref sig .tc := ⟨.hbm, 13, rfl⟩
abbrev main_c_1 : Ref sig .tc := ⟨.hbm, 14, rfl⟩
abbrev main_call0_v0 : Ref sig .tc := ⟨.hbm, 15, rfl⟩
abbrev main_call0_v1 : Ref sig .tc := ⟨.hbm, 16, rfl⟩
abbrev main_call0_v2 : Ref sig .tc := ⟨.hbm, 17, rfl⟩
abbrev main_call0_v3 : Ref sig .tc := ⟨.hbm, 18, rfl⟩
abbrev main_call0_v4 : Ref sig .tc := ⟨.hbm, 19, rfl⟩
abbrev main_v4 : Ref sig .tc := ⟨.hbm, 20, rfl⟩
abbrev main_c_2 : Ref sig .tc := ⟨.hbm, 21, rfl⟩
abbrev main_v5 : Ref sig .tc := ⟨.hbm, 22, rfl⟩
abbrev main_v6 : Ref sig .tc := ⟨.hbm, 23, rfl⟩
abbrev main_c_3 : Ref sig .tc := ⟨.hbm, 24, rfl⟩
abbrev main_v7 : Ref sig .tc := ⟨.hbm, 25, rfl⟩
abbrev main_v8 : Ref sig .tc := ⟨.hbm, 26, rfl⟩
abbrev main_v9 : Ref sig .tc := ⟨.hbm, 27, rfl⟩
abbrev main_c_4 : Ref sig .tc := ⟨.hbm, 28, rfl⟩
abbrev main_v10 : Ref sig .tc := ⟨.hbm, 29, rfl⟩
abbrev main_v11 : Ref sig .tc := ⟨.hbm, 30, rfl⟩
abbrev main_c_5 : Ref sig .tc := ⟨.hbm, 31, rfl⟩
abbrev main_v12 : Ref sig .tc := ⟨.hbm, 32, rfl⟩
abbrev main_v13 : Ref sig .tc := ⟨.hbm, 33, rfl⟩
abbrev main_v14 : Ref sig .tc := ⟨.hbm, 34, rfl⟩
abbrev main_v15 : Ref sig .tc := ⟨.hbm, 35, rfl⟩
abbrev main_v16 : Ref sig .tc := ⟨.hbm, 36, rfl⟩
abbrev main_v17 : Ref sig .tc := ⟨.hbm, 37, rfl⟩
abbrev main_v18 : Ref sig .tc := ⟨.hbm, 38, rfl⟩
abbrev main_v19 : Ref sig .tc := ⟨.hbm, 39, rfl⟩
abbrev main_call1_v0 : Ref sig .tc := ⟨.hbm, 40, rfl⟩
abbrev main_v20 : Ref sig .tc := ⟨.hbm, 41, rfl⟩
abbrev main_c_6 : Ref sig .tc := ⟨.hbm, 42, rfl⟩
abbrev main_v21 : Ref sig .tc := ⟨.hbm, 43, rfl⟩
abbrev main_v22 : Ref sig .tc := ⟨.hbm, 44, rfl⟩
abbrev main_c_7 : Ref sig .tc := ⟨.hbm, 45, rfl⟩
abbrev main_v23 : Ref sig .tc := ⟨.hbm, 46, rfl⟩
abbrev main_v24 : Ref sig .tc := ⟨.hbm, 47, rfl⟩
abbrev main_v25 : Ref sig .tc := ⟨.hbm, 48, rfl⟩
abbrev main_c_8 : Ref sig .tc := ⟨.hbm, 49, rfl⟩
abbrev main_v26 : Ref sig .tc := ⟨.hbm, 50, rfl⟩
abbrev main_v27 : Ref sig .tc := ⟨.hbm, 51, rfl⟩
abbrev main_c_9 : Ref sig .tc := ⟨.hbm, 52, rfl⟩
abbrev main_v28 : Ref sig .tc := ⟨.hbm, 53, rfl⟩
abbrev main_v29 : Ref sig .tc := ⟨.hbm, 54, rfl⟩
abbrev main_v30 : Ref sig .tc := ⟨.hbm, 55, rfl⟩
abbrev main_v31 : Ref sig .tc := ⟨.hbm, 56, rfl⟩
abbrev main_v32 : Ref sig .tc := ⟨.hbm, 57, rfl⟩
abbrev main_v33 : Ref sig .tc := ⟨.hbm, 58, rfl⟩
abbrev main_v34 : Ref sig .tc := ⟨.hbm, 59, rfl⟩
abbrev main_v35 : Ref sig .tc := ⟨.hbm, 60, rfl⟩
abbrev main_v36 : Ref sig .tc := ⟨.hbm, 61, rfl⟩
abbrev main_c_10 : Ref sig .tc := ⟨.hbm, 62, rfl⟩
abbrev main_v37 : Ref sig .tc := ⟨.hbm, 63, rfl⟩
abbrev main_v38 : Ref sig .tc := ⟨.hbm, 64, rfl⟩
abbrev main_v39 : Ref sig .tc := ⟨.hbm, 65, rfl⟩
abbrev main_v40 : Ref sig .tc := ⟨.hbm, 66, rfl⟩
abbrev main_c_11 : Ref sig .tc := ⟨.hbm, 67, rfl⟩
abbrev main_v41 : Ref sig .tc := ⟨.hbm, 68, rfl⟩
abbrev main_v42 : Ref sig .tc := ⟨.hbm, 69, rfl⟩
abbrev main_v43 : Ref sig .tc := ⟨.hbm, 70, rfl⟩
abbrev main_v44 : Ref sig .tc := ⟨.hbm, 71, rfl⟩
abbrev main_v45 : Ref sig .tc := ⟨.hbm, 72, rfl⟩
abbrev main_v46 : Ref sig .tc := ⟨.hbm, 73, rfl⟩
abbrev main_c_12 : Ref sig .tc := ⟨.hbm, 74, rfl⟩
abbrev main_c_13 : Ref sig .tc := ⟨.hbm, 75, rfl⟩
abbrev main_call2_v0 : Ref sig .tc := ⟨.hbm, 76, rfl⟩
abbrev main_call2_v1 : Ref sig .tc := ⟨.hbm, 77, rfl⟩
abbrev main_call2_v2 : Ref sig .tc := ⟨.hbm, 78, rfl⟩
abbrev main_call2_v3 : Ref sig .tc := ⟨.hbm, 79, rfl⟩
abbrev main_call2_v4 : Ref sig .tc := ⟨.hbm, 80, rfl⟩
abbrev main_v47 : Ref sig .tc := ⟨.hbm, 81, rfl⟩
abbrev main_v48 : Ref sig .tc := ⟨.hbm, 82, rfl⟩
abbrev main_v49 : Ref sig .tc := ⟨.hbm, 83, rfl⟩
abbrev main_c_14 : Ref sig .tc := ⟨.hbm, 84, rfl⟩
abbrev main_c_15 : Ref sig .tc := ⟨.hbm, 85, rfl⟩
abbrev main_call3_v0 : Ref sig .tc := ⟨.hbm, 86, rfl⟩
abbrev main_call3_v1 : Ref sig .tc := ⟨.hbm, 87, rfl⟩
abbrev main_call3_v2 : Ref sig .tc := ⟨.hbm, 88, rfl⟩
abbrev main_call3_v3 : Ref sig .tc := ⟨.hbm, 89, rfl⟩
abbrev main_call3_v4 : Ref sig .tc := ⟨.hbm, 90, rfl⟩
abbrev main_v50 : Ref sig .tc := ⟨.hbm, 91, rfl⟩
abbrev main_v51 : Ref sig .tc := ⟨.hbm, 92, rfl⟩
abbrev main_c_16 : Ref sig .tc := ⟨.hbm, 93, rfl⟩
abbrev main_v52 : Ref sig .tc := ⟨.hbm, 94, rfl⟩
abbrev main_v53 : Ref sig .tc := ⟨.hbm, 95, rfl⟩
abbrev main_c_17 : Ref sig .tc := ⟨.hbm, 96, rfl⟩
abbrev main_v54 : Ref sig .tc := ⟨.hbm, 97, rfl⟩
abbrev main_v55 : Ref sig .tc := ⟨.hbm, 98, rfl⟩
abbrev main_v56 : Ref sig .tc := ⟨.hbm, 99, rfl⟩
abbrev main_c_18 : Ref sig .tc := ⟨.hbm, 100, rfl⟩
abbrev main_v57 : Ref sig .tc := ⟨.hbm, 101, rfl⟩
abbrev main_v58 : Ref sig .tc := ⟨.hbm, 102, rfl⟩
abbrev main_c_19 : Ref sig .tc := ⟨.hbm, 103, rfl⟩
abbrev main_v59 : Ref sig .tc := ⟨.hbm, 104, rfl⟩
abbrev main_v60 : Ref sig .tc := ⟨.hbm, 105, rfl⟩
abbrev main_v61 : Ref sig .tc := ⟨.hbm, 106, rfl⟩
abbrev main_c_20 : Ref sig .tc := ⟨.hbm, 107, rfl⟩
abbrev main_v62 : Ref sig .tc := ⟨.hbm, 108, rfl⟩
abbrev main_v63 : Ref sig .tc := ⟨.hbm, 109, rfl⟩
abbrev main_c_21 : Ref sig .tc := ⟨.hbm, 110, rfl⟩
abbrev main_v64 : Ref sig .tc := ⟨.hbm, 111, rfl⟩
abbrev main_v65 : Ref sig .tc := ⟨.hbm, 112, rfl⟩
abbrev main_v66 : Ref sig .tc := ⟨.hbm, 113, rfl⟩
abbrev main_v67 : Ref sig .tc := ⟨.hbm, 114, rfl⟩
abbrev main_v68 : Ref sig .tc := ⟨.hbm, 115, rfl⟩
abbrev main_v69 : Ref sig .tc := ⟨.hbm, 116, rfl⟩
abbrev main_v70 : Ref sig .tc := ⟨.hbm, 117, rfl⟩
abbrev main_v71 : Ref sig .tc := ⟨.hbm, 118, rfl⟩
abbrev main_v72 : Ref sig .tc := ⟨.hbm, 119, rfl⟩
abbrev main_c_22 : Ref sig .tc := ⟨.hbm, 120, rfl⟩
abbrev main_v73 : Ref sig .tc := ⟨.hbm, 121, rfl⟩
abbrev main_v74 : Ref sig .tc := ⟨.hbm, 122, rfl⟩
abbrev main_c_23 : Ref sig .tc := ⟨.hbm, 123, rfl⟩
abbrev main_v75 : Ref sig .tc := ⟨.hbm, 124, rfl⟩
abbrev main_v76 : Ref sig .tc := ⟨.hbm, 125, rfl⟩
abbrev main_v77 : Ref sig .tc := ⟨.hbm, 126, rfl⟩
abbrev main_c_24 : Ref sig .tc := ⟨.hbm, 127, rfl⟩
abbrev main_v78 : Ref sig .tc := ⟨.hbm, 128, rfl⟩
abbrev main_v79 : Ref sig .tc := ⟨.hbm, 129, rfl⟩
abbrev main_c_25 : Ref sig .tc := ⟨.hbm, 130, rfl⟩
abbrev main_v80 : Ref sig .tc := ⟨.hbm, 131, rfl⟩
abbrev main_v81 : Ref sig .tc := ⟨.hbm, 132, rfl⟩
abbrev main_v82 : Ref sig .tc := ⟨.hbm, 133, rfl⟩
abbrev main_c_26 : Ref sig .tc := ⟨.hbm, 134, rfl⟩
abbrev main_v83 : Ref sig .tc := ⟨.hbm, 135, rfl⟩
abbrev main_v84 : Ref sig .tc := ⟨.hbm, 136, rfl⟩
abbrev main_c_27 : Ref sig .tc := ⟨.hbm, 137, rfl⟩
abbrev main_v85 : Ref sig .tc := ⟨.hbm, 138, rfl⟩
abbrev main_v86 : Ref sig .tc := ⟨.hbm, 139, rfl⟩
abbrev main_v87 : Ref sig .tc := ⟨.hbm, 140, rfl⟩
abbrev main_v88 : Ref sig .tc := ⟨.hbm, 141, rfl⟩
abbrev main_v89 : Ref sig .tc := ⟨.hbm, 142, rfl⟩
abbrev main_v90 : Ref sig .tc := ⟨.hbm, 143, rfl⟩
abbrev main_v91 : Ref sig .tc := ⟨.hbm, 144, rfl⟩
abbrev main_v92 : Ref sig .tc := ⟨.hbm, 145, rfl⟩
abbrev main_c_28 : Ref sig .tc := ⟨.hbm, 146, rfl⟩
abbrev main_v93 : Ref sig .tc := ⟨.hbm, 147, rfl⟩
abbrev main_v94 : Ref sig .tc := ⟨.hbm, 148, rfl⟩
abbrev main_c_29 : Ref sig .tc := ⟨.hbm, 149, rfl⟩
abbrev main_v95 : Ref sig .tc := ⟨.hbm, 150, rfl⟩
abbrev main_v96 : Ref sig .tc := ⟨.hbm, 151, rfl⟩
abbrev main_v97 : Ref sig .tc := ⟨.hbm, 152, rfl⟩
abbrev main_c_30 : Ref sig .tc := ⟨.hbm, 153, rfl⟩
abbrev main_v98 : Ref sig .tc := ⟨.hbm, 154, rfl⟩
abbrev main_v99 : Ref sig .tc := ⟨.hbm, 155, rfl⟩
abbrev main_c_31 : Ref sig .tc := ⟨.hbm, 156, rfl⟩
abbrev main_v100 : Ref sig .tc := ⟨.hbm, 157, rfl⟩
abbrev main_v101 : Ref sig .tc := ⟨.hbm, 158, rfl⟩
abbrev main_v102 : Ref sig .tc := ⟨.hbm, 159, rfl⟩
abbrev main_c_32 : Ref sig .tc := ⟨.hbm, 160, rfl⟩
abbrev main_v103 : Ref sig .tc := ⟨.hbm, 161, rfl⟩
abbrev main_v104 : Ref sig .tc := ⟨.hbm, 162, rfl⟩
abbrev main_c_33 : Ref sig .tc := ⟨.hbm, 163, rfl⟩
abbrev main_v105 : Ref sig .tc := ⟨.hbm, 164, rfl⟩
abbrev main_v106 : Ref sig .tc := ⟨.hbm, 165, rfl⟩
abbrev main_v107 : Ref sig .tc := ⟨.hbm, 166, rfl⟩
abbrev main_v108 : Ref sig .tc := ⟨.hbm, 167, rfl⟩
abbrev main_v109 : Ref sig .tc := ⟨.hbm, 168, rfl⟩
abbrev main_v110 : Ref sig .tc := ⟨.hbm, 169, rfl⟩
abbrev main_v111 : Ref sig .tc := ⟨.hbm, 170, rfl⟩
abbrev main_v112 : Ref sig .tc := ⟨.hbm, 171, rfl⟩
abbrev main_v113 : Ref sig .tc := ⟨.hbm, 172, rfl⟩
abbrev main_v114 : Ref sig .tc := ⟨.hbm, 173, rfl⟩
abbrev main_v115 : Ref sig .tc := ⟨.hbm, 174, rfl⟩
abbrev main_v116 : Ref sig .tc := ⟨.hbm, 175, rfl⟩
abbrev main_v117 : Ref sig .tc := ⟨.hbm, 176, rfl⟩
abbrev main_c_34 : Ref sig .tc := ⟨.hbm, 177, rfl⟩
abbrev main_v118 : Ref sig .tc := ⟨.hbm, 178, rfl⟩
abbrev main_v119 : Ref sig .tc := ⟨.hbm, 179, rfl⟩
abbrev main_v120 : Ref sig .tc := ⟨.hbm, 180, rfl⟩
abbrev main_v121 : Ref sig .tc := ⟨.hbm, 181, rfl⟩
abbrev main_c_35 : Ref sig .tc := ⟨.hbm, 182, rfl⟩
abbrev main_v122 : Ref sig .tc := ⟨.hbm, 183, rfl⟩
abbrev main_v123 : Ref sig .tc := ⟨.hbm, 184, rfl⟩
abbrev main_v124 : Ref sig .tc := ⟨.hbm, 185, rfl⟩
abbrev main_v125 : Ref sig .tc := ⟨.hbm, 186, rfl⟩
abbrev main_v126 : Ref sig .tc := ⟨.hbm, 187, rfl⟩
abbrev main_cst : Ref sig .tc := ⟨.hbm, 188, rfl⟩
abbrev main_call5_v0 : Ref sig .tc := ⟨.hbm, 189, rfl⟩
abbrev main_v127 : Ref sig .tc := ⟨.hbm, 190, rfl⟩

abbrev nD : Nat := 1
abbrev τ : Topo := Topo.v7x

variable {F : FTy → Type} [FloatOps F]
-- ==== Proof.IdealBase.lean ====
/-
  What every module about the printed program's threads shares: the program as the SparseCore launch theorem reads
  it, the resource algebra (the handshakes' rounds, the TensorCore pipeline's rounds, the tiles' transfers), and one
  tile's own buffers and semaphores, taken out of what its thread owns.
-/
module

public import proofs.«01_k».proof.Defs
public import Idealize.ShloMosaic.Lib.SparseCore.Quiescent
public import Idealize.ShloMosaic.Lib.SparseCore.Ops
public import Idealize.ShloMosaic.Lib.StableHlo.Run
public import Idealize.ShloMosaic.Lib.Pipeline.Kit
public import Idealize.ShloMosaic.Lib.Tactic
public import proofs.«01_k».proof.Proof.Gen.KernelIdeal
public import proofs.«01_k».proof.Proof.Gen.KernelIdeal.Skeleton

@[expose] public section

set_option maxRecDepth 16384

noncomputable section

namespace Cert.Proof.KernelIdeal

open Cert.KernelIdeal Cert.KernelIdeal.Gen
open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

/-! ## The program as the launch theorem sees it -/

abbrev ΛP : Labels := Pipeline.Sig Λ₀ (Fin 1) fun p => (pcfgs (F := F) p).Adm
abbrev K : SparseCore.Cfg τ sig (ΛP (F := F)) 1 := sc (F := F)
abbrev D [FloatOps F] : Defs nD τ sig (Elt F) (ΛP (F := F)) := Pipeline.defs pcfgs defs₀
abbrev 𝒱₀ : Variants := Variants.none
abbrev 𝒱 : Variants := 𝒱₀.lift
abbrev v₀ : 𝒱.V := Sum.inl none

theorem nSub_zero : (K (F := F)).nSub 0 = 16 := rfl
theorem nCore_zero : (K (F := F)).nCore 0 = 2 := rfl

theorem facts : (K (F := F)).Facts :=
  ⟨show sc_start ≠ sc_taskDone by decide, show (SemLoc.reg sc_start : SemLoc sig).isScoped .scScalar = false by decide,
    show (SemLoc.reg sc_taskDone : SemLoc sig).isScoped .scScalar = false by decide,
    show (SemLoc.reg sc_go : SemLoc sig).isScoped .scVector = false by decide,
    show (SemLoc.reg sc_done : SemLoc sig).isScoped .tc = false by decide,
    show ∀ (b : DevRef τ sig) (c : Fin τ.nSC), b.owner = .sc c → sig.taskShared b.table b.idx = false by decide,
    fun _ => rfl⟩

/-! ## The resource algebra -/

/-- The handshakes' rounds. -/
abbrev UH : Type := URounds (GSem nD τ sig) ℕ
/-- The TensorCore pipeline's rounds. -/
abbrev UP : Type := URounds (GSem nD τ sig) Unit
abbrev UU : Type := UH × (UP × Counters)

local notation "𝕄" => MT nD τ sig (HIx 1) (Elt F) ℕ UU ℕ

abbrev EH : Emb UH (MT nD τ sig (HIx 1) (Elt F) ℕ UU ℕ) := embL

/-- The pipeline's rounds, in the left of the second factor. -/
def EP : Emb UP (MT nD τ sig (HIx 1) (Elt F) ℕ UU ℕ) := (Emb.inl : Emb UP (UP × Counters)).trans embR

instance EP_landsIn : (EP : Emb UP 𝕄).LandsIn (upEmb : UEmb _ 𝕄) := by unfold EP; infer_instance

/-! ## One tile's cells and scratches -/

section Tile

variable (d : Dev nD) (L : grid1.Coords)

abbrev cV (L : grid1.Coords) : Fin τ.nSC := (L 0).castLE hcore1
abbrev jV (L : grid1.Coords) : Fin τ.nSub := (L 1).castLE hsub1

/-- The thread of the tile at grid point `L`. -/
abbrev thr (d : Dev nD) (L : grid1.Coords) : Thread nD τ := V d (cV L) (jV L)

/-- The cell of one of the tile's DMA semaphores. -/
abbrev cell (d : Dev nD) (L : grid1.Coords) (s : DmaSems sig S_) : GSem nD τ sig := (thr d L, .dma s.sem)

theorem mem_cell (s : DmaSems sig S_) (h : (SemLoc.dma s.sem : SemLoc sig).isScoped .scVector = true) : cell d L s ∈ ownCells (thr d L) :=
  mem_ownCells.mpr ⟨rfl, h⟩

theorem cell_ne {s s' : DmaSems sig S_} (h : (SemLoc.dma s.sem : SemLoc sig) ≠ SemLoc.dma s'.sem) : cell d L s ≠ cell d L s' :=
  fun e => h (Prod.mk.inj e).2

/-- The tile's other cells. -/
abbrev cellsRest (d : Dev nD) (L : grid1.Coords) : Finset (GSem nD τ sig) :=
  ((((((((ownCells (thr d L)).erase (cell d L cc1_scoped0)).erase (cell d L cc1_scoped1)).erase (cell d L cc1_scoped2)).erase
    (cell d L cc1_scoped3)).erase (cell d L cc1_scoped4)).erase (cell d L cc1_scoped5)).erase (cell d L cc1_scoped6))

/-- The tile's seven DMA semaphores, at zero, out of its own semaphores. -/
theorem ownSems0_V :
    (ownSems0 (thr d L) : sProp 𝕄)
      = iprop(semVal (cell d L cc1_scoped0) 0 ∗ semVal (cell d L cc1_scoped1) 0 ∗ semVal (cell d L cc1_scoped2) 0
          ∗ semVal (cell d L cc1_scoped3) 0 ∗ semVal (cell d L cc1_scoped4) 0 ∗ semVal (cell d L cc1_scoped5) 0
          ∗ semVal (cell d L cc1_scoped6) 0 ∗ bigSep (cellsRest d L) fun g => semVal g 0) := by
  unfold SparseCore.Cfg.ownSems0
  rw [SparseCore.bigSep_erase' (mem_cell d L cc1_scoped0 (by decide)),
    SparseCore.bigSep_erase' (Finset.mem_erase.mpr ⟨cell_ne d L (by decide), mem_cell d L cc1_scoped1 (by decide)⟩),
    SparseCore.bigSep_erase' (Finset.mem_erase.mpr ⟨cell_ne d L (by decide), Finset.mem_erase.mpr ⟨cell_ne d L (by decide),
      mem_cell d L cc1_scoped2 (by decide)⟩⟩),
    SparseCore.bigSep_erase' (Finset.mem_erase.mpr ⟨cell_ne d L (by decide), Finset.mem_erase.mpr ⟨cell_ne d L (by decide),
      Finset.mem_erase.mpr ⟨cell_ne d L (by decide), mem_cell d L cc1_scoped3 (by decide)⟩⟩⟩),
    SparseCore.bigSep_erase' (Finset.mem_erase.mpr ⟨cell_ne d L (by decide), Finset.mem_erase.mpr ⟨cell_ne d L (by decide),
      Finset.mem_erase.mpr ⟨cell_ne d L (by decide), Finset.mem_erase.mpr ⟨cell_ne d L (by decide), mem_cell d L cc1_scoped4 (by decide)⟩⟩⟩⟩),
    SparseCore.bigSep_erase' (Finset.mem_erase.mpr ⟨cell_ne d L (by decide), Finset.mem_erase.mpr ⟨cell_ne d L (by decide),
      Finset.mem_erase.mpr ⟨cell_ne d L (by decide), Finset.mem_erase.mpr ⟨cell_ne d L (by decide), Finset.mem_erase.mpr ⟨cell_ne d L (by decide),
        mem_cell d L cc1_scoped5 (by decide)⟩⟩⟩⟩⟩),
    SparseCore.bigSep_erase' (Finset.mem_erase.mpr ⟨cell_ne d L (by decide), Finset.mem_erase.mpr ⟨cell_ne d L (by decide),
      Finset.mem_erase.mpr ⟨cell_ne d L (by decide), Finset.mem_erase.mpr ⟨cell_ne d L (by decide), Finset.mem_erase.mpr ⟨cell_ne d L (by decide),
        Finset.mem_erase.mpr ⟨cell_ne d L (by decide), mem_cell d L cc1_scoped6 (by decide)⟩⟩⟩⟩⟩⟩)]

/-- A scratch of the tile, as a buffer of its device. -/
abbrev scr (L : grid1.Coords) (b : Ref sig .scVector) : DevRef τ sig := (Proc.scVector (cV L) (jV L)).devRef b

theorem mem_scr (b : Ref sig .scVector) (h : (scr L b).owner = .proc (.scVector (cV L) (jV L))) :
    scr L b ∈ ownRefs (τ := τ) (.scVector (cV L) (jV L)) :=
  SparseCore.Cfg.mem_ownRefs_of_owner h

theorem scr_ne {b b' : Ref sig .scVector} (h : b ≠ b') : scr L b ≠ scr L b' := fun e => h (Proc.devRef_injective _ e)

/-- The tile's other buffers. -/
abbrev scrRest (L : grid1.Coords) : Finset (DevRef τ sig) :=
  (((((((ownRefs (τ := τ) (.scVector (cV L) (jV L))).erase (scr L cc1_scratch0)).erase (scr L cc1_scratch1)).erase (scr L cc1_scratch2)).erase
    (scr L cc1_scratch3)).erase (scr L cc1_scratch4)).erase (scr L cc1_scratch5)).erase (scr L cc1_scratch6)

/-- The tile's seven scratches, each at some contents, out of its own buffers. -/
theorem ownBufs_V :
    (ownBufs (thr d L) : sProp 𝕄)
      = iprop((∃ f, (Memref.whole cc1_scratch0).view.loc (thr d L) ↦{fullShare} f) ∗ (∃ f, (Memref.whole cc1_scratch1).view.loc (thr d L) ↦{fullShare} f)
          ∗ (∃ f, (Memref.whole cc1_scratch2).view.loc (thr d L) ↦{fullShare} f) ∗ (∃ f, (Memref.whole cc1_scratch3).view.loc (thr d L) ↦{fullShare} f)
          ∗ (∃ f, (Memref.whole cc1_scratch4).view.loc (thr d L) ↦{fullShare} f) ∗ (∃ f, (Memref.whole cc1_scratch5).view.loc (thr d L) ↦{fullShare} f)
          ∗ (∃ f, (Memref.whole cc1_scratch6).view.loc (thr d L) ↦{fullShare} f)
          ∗ bigSep (scrRest L) fun b => iprop(∃ f, ((d, b) : Loc nD τ sig) ↦{fullShare} f)) := by
  unfold SparseCore.Cfg.ownBufs
  refine (SparseCore.bigSep_erase' (mem_scr L cc1_scratch0 rfl)).trans ?_
  rw [SparseCore.bigSep_erase' (Finset.mem_erase.mpr ⟨scr_ne L (by decide), mem_scr L cc1_scratch1 rfl⟩),
    SparseCore.bigSep_erase' (Finset.mem_erase.mpr ⟨scr_ne L (by decide), Finset.mem_erase.mpr ⟨scr_ne L (by decide), mem_scr L cc1_scratch2 rfl⟩⟩),
    SparseCore.bigSep_erase' (Finset.mem_erase.mpr ⟨scr_ne L (by decide), Finset.mem_erase.mpr ⟨scr_ne L (by decide),
      Finset.mem_erase.mpr ⟨scr_ne L (by decide), mem_scr L cc1_scratch3 rfl⟩⟩⟩),
    SparseCore.bigSep_erase' (Finset.mem_erase.mpr ⟨scr_ne L (by decide), Finset.mem_erase.mpr ⟨scr_ne L (by decide),
      Finset.mem_erase.mpr ⟨scr_ne L (by decide), Finset.mem_erase.mpr ⟨scr_ne L (by decide), mem_scr L cc1_scratch4 rfl⟩⟩⟩⟩),
    SparseCore.bigSep_erase' (Finset.mem_erase.mpr ⟨scr_ne L (by decide), Finset.mem_erase.mpr ⟨scr_ne L (by decide),
      Finset.mem_erase.mpr ⟨scr_ne L (by decide), Finset.mem_erase.mpr ⟨scr_ne L (by decide), Finset.mem_erase.mpr ⟨scr_ne L (by decide),
        mem_scr L cc1_scratch5 rfl⟩⟩⟩⟩⟩),
    SparseCore.bigSep_erase' (Finset.mem_erase.mpr ⟨scr_ne L (by decide), Finset.mem_erase.mpr ⟨scr_ne L (by decide),
      Finset.mem_erase.mpr ⟨scr_ne L (by decide), Finset.mem_erase.mpr ⟨scr_ne L (by decide), Finset.mem_erase.mpr ⟨scr_ne L (by decide),
        Finset.mem_erase.mpr ⟨scr_ne L (by decide), mem_scr L cc1_scratch6 rfl⟩⟩⟩⟩⟩⟩)]

end Tile

end Cert.Proof.KernelIdeal

end
-- ==== Proof.IdealHist.lean ====
/-
  The TensorCore's pallas_call, which writes the history: what one grid point computes, the kernel body's obligation
  to the pipeline, and the history array the pipeline leaves.
-/
module

public import proofs.«01_k».proof.Proof.IdealBase
public import proofs.«01_k».proof.Proof.Gen.KernelIdeal.Launch
public import proofs.«01_k».proof.Proof.Gen.KernelIdeal.Points
public import Idealize.ShloMosaic.Lib.ValueIdx
public import Idealize.ShloMosaic.Lib.ValueLayout
public import Idealize.ShloMosaic.Lib.Pipeline.Value
public import Idealize.ShloMosaic.Lib.Pipeline.ValueKit.Geometry
public import Idealize.ShloMosaic.Lib.Pipeline.FrameBody

@[expose] public section

set_option maxRecDepth 16384

noncomputable section

namespace Cert.Proof.KernelIdeal

open Cert.KernelIdeal Cert.KernelIdeal.Gen
open Idealize.ShloMosaic Idealize.ShloMosaic.ValueIdx Idealize.ShloMosaic.TcCoe
open Idealize.ShloMosaic.SparseCore (S V T)
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Window BodyObligation BodyObligationLoose)
open Idealize.ShloMosaic.Tactic

variable {F : FTy → Type} [FloatOps F]

local notation "𝕄" => MT nD τ sig (HIx 1) (Elt F) ℕ UU ℕ

/-! ## One grid point's block at an index -/

/-- The history after the move: the row numbered by the move count holds the board, every other row what it held. -/
def histArr (f7 : Vec F S1x512 .i32) (f2 : Vec F S361x512 .f32) (f0 : Vec F S361x361x512 .f32) : Vec F S361x361x512 .f32 :=
  fun i => if BitVec.ofNat 32 (i 0).val = f7 (ix2 0 (i 2)) then f2 (ix2 (i 1) (i 2)) else f0 i

theorem pay_apply (i : grid0.Coords) (v4 : Vec F S1x512 .i32) (v10 : Vec F S361x512 .f32) (v13 : Vec F S19x361x512 .f32)
    (a : Fin 19) (p : Fin 361) (l : Fin 512) :
    k0_pay1 i v4 v10 v13 (ix3 a p l)
      = if BitVec.ofNat 32 (19 * (i 0).val + a.val) = v4 (ix2 0 l) then v10 (ix2 p l) else v13 (ix3 a p l) := by
  have e3 : addi (broadcast S19x1x1 (Scalar.muli (BitVec.ofNat 32 (i 0).val) 19#32)) (iota .tc S19x1x1 32 [0] iota_S19x1x1_d0_w32) (ix3 a 0 0)
      = BitVec.ofNat 32 (19 * (i 0).val + a.val) := by
    show BitVec.ofNat 32 (i 0).val * 19#32 + iota .tc S19x1x1 32 [0] iota_S19x1x1_d0_w32 (ix3 a 0 0) = _
    rw [iota_single_apply]
    show BitVec.ofNat 32 (i 0).val * BitVec.ofNat 32 19 + BitVec.ofNat 32 a.val = _
    rw [← BitVec.ofNat_mul, ← BitVec.ofNat_add, Nat.mul_comm]
  unfold k0_pay1
  simp only [shapeCast_self]
  unfold select
  rw [broadcastTo_apply _ broadcasts_S19x1x512_S19x361x512 (ix3 a p l) (ix3 a 0 l) (by intro x; fin_cases x <;> rfl),
    broadcastTo_apply _ broadcasts_S1x361x512_S19x361x512 (ix3 a p l) (ix3 0 p l) (by intro x; fin_cases x <;> rfl)]
  unfold cmpi
  rw [broadcastTo_apply _ broadcasts_S19x1x1_S19x1x512 (ix3 a 0 l) (ix3 a 0 0) (by intro x; fin_cases x <;> rfl),
    broadcastTo_apply _ broadcasts_S1x1x512_S19x1x512 (ix3 a 0 l) (ix3 0 0 l) (by intro x; fin_cases x <;> rfl),
    shapeCast_ab_1ab_apply, shapeCast_ab_1ab_apply, e3]
  exact if_congr IntOp.cmpi_eq rfl rfl

/-! ## The kernel body on the staging buffers -/

theorem sound_body (c : Dev nD) (E : Set ℕ) (i : grid0.Coords) (s0 : Fin 1) (s1 : Fin 1) (s2 : Fin 2) (s3 : Fin 2)
    (X0 : S1x512.Idx → Elt F .i32) (X1 : S361x512.Idx → Elt F .f32) (X2 X3 : S19x361x512.Idx → Elt F .f32) (Q : PUnit → sProp 𝕄) :
    iprop((owns (c : Thread nD τ) (stage0_0 s0) fullShare X0 ∗ owns (c : Thread nD τ) (stage0_1 s1) fullShare X1
            ∗ owns (c : Thread nD τ) (stage0_2 s2) fullShare X2 ∗ owns (c : Thread nD τ) (stage0_3 s3) fullShare X3)
          ∗ (iprop(owns (c : Thread nD τ) (stage0_0 s0) fullShare X0 ∗ owns (c : Thread nD τ) (stage0_1 s1) fullShare X1
            ∗ owns (c : Thread nD τ) (stage0_2 s2) fullShare X2 ∗ owns (c : Thread nD τ) (stage0_3 s3) fullShare (k0_pay1 i X0 X1 X2)) -∗ Q ⟨⟩))
      ⊢ wp frame (wpE (defs₀ (F := F)) 𝒱₀ c none) E
          (cc0_go_hist_tc i (stage0_0 s0) (hstage0_0 s0) (stage0_1 s1) (hstage0_1 s1) (stage0_2 s2) (hstage0_2 s2) (stage0_3 s3) (hstage0_3 s3)) Q := by
  have hz2 : (![0, 0] : Fin 2 → Nat) = fun _ => 0 := funext fun a => by fin_cases a <;> rfl
  have hz3 : (![0, 0, 0] : Fin 3 → Nat) = fun _ => 0 := funext fun a => by fin_cases a <;> rfl
  have hr0 : (Memref.whole cc0_stg0_0 : Memref sig .tc _ _ _).view.readAt (Elt F) (Rect.unit (s := S1x512) ![0, 0] S1x512.size
        inb_S1x512_S1x512_0_0).toLoadRect = id := funext (Memref.readAt_unit_zero (Elt F) cc0_stg0_0 hz2 _)
  have hr1 : (Memref.whole cc0_stg1_0 : Memref sig .tc _ _ _).view.readAt (Elt F) (Rect.unit (s := S361x512) ![0, 0] S361x512.size
        inb_S361x512_S361x512_0_0).toLoadRect = id := funext (Memref.readAt_unit_zero (Elt F) cc0_stg1_0 hz2 _)
  have hr20 : (Memref.whole cc0_stg2_0 : Memref sig .tc _ _ _).view.readAt (Elt F) (Rect.unit (s := S19x361x512) ![0, 0, 0] S19x361x512.size
        inb_S19x361x512_S19x361x512_0_0_0).toLoadRect = id := funext (Memref.readAt_unit_zero (Elt F) cc0_stg2_0 hz3 _)
  have hr21 : (Memref.whole cc0_stg2_1 : Memref sig .tc _ _ _).view.readAt (Elt F) (Rect.unit (s := S19x361x512) ![0, 0, 0] S19x361x512.size
        inb_S19x361x512_S19x361x512_0_0_0).toLoadRect = id := funext (Memref.readAt_unit_zero (Elt F) cc0_stg2_1 hz3 _)
  have hw30 : ∀ f w, (((Memref.whole cc0_stg3_0).access (Rect.unit (s := S19x361x512) ![0, 0, 0] S19x361x512.size inb_S19x361x512_S19x361x512_0_0_0)) :
        View sig .tc _ _ _).write (Elt F) f w Finset.univ = w := Memref.write_access_unit_zero_univ (Elt F) cc0_stg3_0 hz3 _
  have hw31 : ∀ f w, (((Memref.whole cc0_stg3_1).access (Rect.unit (s := S19x361x512) ![0, 0, 0] S19x361x512.size inb_S19x361x512_S19x361x512_0_0_0)) :
        View sig .tc _ _ _).write (Elt F) f w Finset.univ = w := Memref.write_access_unit_zero_univ (Elt F) cc0_stg3_1 hz3 _
  fin_cases s0 <;> fin_cases s1 <;> fin_cases s2 <;> fin_cases s3 <;>
  · simp only [owns_whole_eq, cc0_go_hist_tc_eq_skeleton]; unfold cc0_go_hist_tc_skel
    simp only [Prog.lift, Prog.bind_op, Prog.bind_ret]
    iintro ⟨⟨⟨%f0, %hf0, H0⟩, ⟨%f1, %hf1, H1⟩, ⟨%f2, %hf2, H2⟩, ⟨%f3, %hf3, H3⟩⟩, Hk⟩
    sl_steps
    iapply Hk
    rw [hr0, hr1]
    first | rw [hr20] | rw [hr21]
    first | rw [hw30] | rw [hw31]
    isplitl [H0]
    · iexists f0; isplitr; · ipureintro; exact hf0
      iexact H0
    isplitl [H1]
    · iexists f1; isplitr; · ipureintro; exact hf1
      iexact H1
    isplitl [H2]
    · iexists f2; isplitr; · ipureintro; exact hf2
      iexact H2
    · iexists k0_pay1 i f0 f1 f2; isplitr; · ipureintro; rw [hf0, hf1, hf2]
      iexact H3

/-! ## The pipeline's proof data -/

section Data

variable (V : (c : Dev nD) → (b : Ref sig .tc) → Buf (Elt F) ((c : Thread nD τ).loc b))

/-- The move counts' block, the board's and the history's at point `t`, as the fetches stage them. -/
def blkM (c : Dev nD) (t : Fin cfg0.N) : S1x512.Idx → Elt F .i32 := (win0_0.blk t).view.read (Elt F) (V c main_v7)
def blkB (c : Dev nD) (t : Fin cfg0.N) : S361x512.Idx → Elt F .f32 := (win0_1.blk t).view.read (Elt F) (V c main_v2)
def blkH (c : Dev nD) (t : Fin cfg0.N) : S19x361x512.Idx → Elt F .f32 := (win0_2.blk t).view.read (Elt F) (V c main_v0)

/-- The pairs a wait of the TensorCore may have recorded before its first SparseCore call. -/
def early (c : Dev nD) : Set (SemLoc sig × HIx 1) := {p | (K (F := F)).lev ((c : Thread nD τ), p.1) p.2 ≤ 0}

/-- The proof data of the pipeline, entered with the arrays at `V` and owing what the SparseCore call is owed. -/
def dat (c : Dev nD) : Dat τ (Elt F) (HIx 1) ℕ UU ℕ cfg0 c where
  A w := V c (Pipeline.arrRef spec0 w)
  after w t := match w with
    | ⟨0, _⟩ => blkM V c t
    | ⟨1, _⟩ => blkB V c t
    | ⟨2, _⟩ => blkH V c t
    | ⟨3, _⟩ => k0_pay1 (grid0.coords t) (blkM V c t) (blkB V c t) (blkH V c t)
  Φ _ := iprop(emp)
  q _ := fullShare
  owed _ := (K (F := F)).Otc c 0
  recorded _ := early (F := F) c

theorem before_0 (c : Dev nD) (t : Fin cfg0.N) (d) : (dat V c).before (0 : Fin 4) t d = blkM V c t :=
  (dat V c).before_in_eq_fetched 0 rfl (fun _ => rfl) (fun _ _ _ => rfl) (fun _ => rfl) t d
theorem before_1 (c : Dev nD) (t : Fin cfg0.N) (d) : (dat V c).before (1 : Fin 4) t d = blkB V c t :=
  (dat V c).before_in_eq_fetched 1 rfl (fun _ => rfl) (fun _ _ _ => rfl) (fun _ => rfl) t d
theorem before_2 (c : Dev nD) (t : Fin cfg0.N) (d) : (dat V c).before (2 : Fin 4) t d = blkH V c t :=
  (dat V c).before_in_eq_fetched 2 rfl (fun _ => rfl) (fun _ _ _ => rfl) (fun _ => rfl) t d
theorem before_3 (c : Dev nD) (t : Fin cfg0.N) (d) : (dat V c).before (3 : Fin 4) t d = d :=
  (dat V c).before_out_reset 3 rfl t (by
    by_cases h : t.val = 0
    · exact .inl h
    · exact .inr ⟨h, flush0_3 _⟩) d

theorem body_obligation (c : Dev nD) : BodyObligationLoose (dat V c) (defs₀ (F := F)) 𝒱₀ none Set.univ := fun t => by
  rw [bigSep_W0, bigSep_W0]
  simp only
  rw [show (dat V c).Φ t.succ = (dat V c).Φ t.castSucc from rfl,
    show (dat V c).owesAt none t.succ = (dat V c).owesAt none t.castSucc from rfl]
  iintro ⟨HΦ, Ho, ⟨%d0, H0⟩, ⟨%d1, H1⟩, ⟨%d2, H2⟩, ⟨%d3, H3⟩⟩
  rw [before_0 V c t d0, before_1 V c t d1, before_2 V c t d2, before_3 V c t d3]
  iapply (sound_body (F := F) c Set.univ (grid0.coords t) (cfg0.slots t 0) (cfg0.slots t 1) (cfg0.slots t 2) (cfg0.slots t 3)
    (blkM V c t) (blkB V c t) (blkH V c t) d3 _)
  isplitl [H0 H1 H2 H3]
  · isplitl [H0]; · iexact H0
    isplitl [H1]; · iexact H1
    isplitl [H2]; · iexact H2
    iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-! ## The history array after the pipeline -/

theorem index0_3 : ∀ t : Fin cfg0.N, win0_3.index t = ![(grid0.coords t 0).val, 0, 0] :=
  (by decide +kernel : ∀ t : Fin grid0.N, win0_3.index t = ![(grid0.coords t 0).val, 0, 0])
theorem index0_2 : ∀ t : Fin cfg0.N, win0_2.index t = ![(grid0.coords t 0).val, 0, 0] :=
  (by decide +kernel : ∀ t : Fin grid0.N, win0_2.index t = ![(grid0.coords t 0).val, 0, 0])
theorem index0_1 : ∀ t : Fin cfg0.N, win0_1.index t = ![0, 0] :=
  (by decide +kernel : ∀ t : Fin grid0.N, win0_1.index t = ![0, 0])
theorem index0_0 : ∀ t : Fin cfg0.N, win0_0.index t = ![0, 0] :=
  (by decide +kernel : ∀ t : Fin grid0.N, win0_0.index t = ![0, 0])

theorem final_hist (c : Dev nD) : (dat V c).arrAt 3 cfg0.N = histArr (V c main_v7) (V c main_v2) (V c main_v0) := by
  refine (dat V c).arrAt_eq_of_covers 3 _ (by decide +kernel) fun t hf y => ?_
  blk_simp
  dsimp only [dat]
  obtain ⟨a, p, l, rfl⟩ : ∃ (a : Fin 19) (p : Fin 361) (l : Fin 512), y = ix3 a p l := ⟨y 0, y 1, y 2, eq_ix3 y⟩
  refine (pay_apply _ _ _ _ a p l).trans ?_
  unfold histArr blkM blkB blkH
  have h1 : (win0_3.blk t).view.emb (ix3 a p l) 1 = p := by
    apply Fin.ext; blk_simp [index0_3]; rfl
  have h2 : (win0_3.blk t).view.emb (ix3 a p l) 2 = l := by
    apply Fin.ext; blk_simp [index0_3]; rfl
  have e0 : (win0_0.blk t).view.emb (ix2 0 l) = ix2 0 l := by blk_ext [index0_0]
  have e1 : (win0_1.blk t).view.emb (ix2 p l) = ix2 p l := by blk_ext [index0_1]
  have e2 : (win0_2.blk t).view.emb (ix3 a p l) = (win0_3.blk t).view.emb (ix3 a p l) := by
    blk_ext [index0_2, index0_3]
  have e3 : 19 * (grid0.coords t 0).val + a.val = ((win0_3.blk t).view.emb (ix3 a p l) 0).val := by
    blk_simp [index0_3]
    change 19 * (grid0.coords t 0).val + a.val = (grid0.coords t 0).val * 19 + a.val
    omega
  rw [e3]
  blk_simp
  refine ite_congr ?_ (fun _ => ?_) (fun _ => ?_)
  · rw [e0, h2]
    rfl
  · rw [e1, h1, h2]
  · rw [e2]

end Data

end Cert.Proof.KernelIdeal

end
-- ==== Proof.IdealRegion.lean ====
/-
  The TensorCore's pallas_call as one step of @main: entered with every array held and what the SparseCore call is owed
  still owed, left with the history array rewritten, the rest and the debts as they were.
-/
module

public import proofs.«01_k».proof.Proof.IdealHist
public import Idealize.ShloMosaic.Lib.Pipeline.RegionArrays

@[expose] public section

set_option maxRecDepth 16384

noncomputable section

namespace Cert.Proof.KernelIdeal

open Cert.KernelIdeal Cert.KernelIdeal.Gen
open Idealize.ShloMosaic Idealize.ShloMosaic.ValueIdx Idealize.ShloMosaic.TcCoe
open Idealize.ShloMosaic.SparseCore (S V T)
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Window BodyObligation BodyObligationLoose)
open Idealize.ShloMosaic.Tactic

variable {F : FTy → Type} [FloatOps F]

local notation "𝕄" => MT nD τ sig (HIx 1) (Elt F) ℕ UU ℕ

/-- No pipeline of the program has a prefetched table to choose. -/
abbrev adm : (p : Fin 1) → (pcfgs (F := F) p).Adm := fun p => (cfgs p).toPCfg_adm

variable (W : (c : Dev nD) → Valuation τ sig (Elt F))

/-- The TensorCore's arrays at a valuation. -/
abbrev atRefs (c : Dev nD) (b : Ref sig .tc) : Buf (Elt F) ((c : Thread nD τ).loc b) := W c (Proc.devRef .tc b)

def pdats : (p : Fin 1) → (c : Dev nD) → Dat τ (Elt F) (HIx 1) ℕ UU ℕ (Pipeline.pin (pcfgs (F := F)) adm p) c
  | ⟨0, _⟩ => fun c => dat (atRefs W) c

/-- The valuation after the call: the history array at its final contents. -/
def afterHist (c : Dev nD) : Valuation τ sig (Elt F) :=
  Function.update (W c) (Proc.devRef .tc main_v8) (histArr (atRefs W c main_v7) (atRefs W c main_v2) (atRefs W c main_v0))

theorem afterHist_of_ne (c : Dev nD) {b : DevRef τ sig} (h : b ≠ Proc.devRef .tc main_v8) : afterHist W c b = W c b :=
  Function.update_of_ne h _ _

theorem afterHist_v8 (c : Dev nD) :
    afterHist W c (Proc.devRef .tc main_v8) = histArr (atRefs W c main_v7) (atRefs W c main_v2) (atRefs W c main_v0) :=
  Function.update_self _ _ _

theorem afterHist_off (c : Dev nD) : ∀ b ∈ Pipeline.ucRefs τ sig \ Pipeline.arrRefs spec0, afterHist W c b = W c b := fun b hb =>
  afterHist_of_ne W c fun h => (Finset.mem_sdiff.mp hb).2 (h ▸ Finset.mem_map.mpr ⟨main_v8, Finset.mem_image.mpr ⟨3, Finset.mem_univ _, rfl⟩, rfl⟩)

/-- After the call each window's array is as `afterHist` has it. -/
theorem final_arrays (c : Dev nD) (w : Fin cfg0.W) :
    (dat (atRefs W) c).arrAt w cfg0.N = afterHist W c (Proc.devRef .tc (Pipeline.arrRef spec0 w)) := by
  fin_cases w
  · exact ((dat (atRefs W) c).arrAt_in 0 rfl _).trans (afterHist_of_ne W c (b := Proc.devRef .tc main_v7) (by decide)).symm
  · exact ((dat (atRefs W) c).arrAt_in 1 rfl _).trans (afterHist_of_ne W c (b := Proc.devRef .tc main_v2) (by decide)).symm
  · exact ((dat (atRefs W) c).arrAt_in 2 rfl _).trans (afterHist_of_ne W c (b := Proc.devRef .tc main_v0) (by decide)).symm
  · exact (final_hist (atRefs W) c).trans (afterHist_v8 W c).symm

/-- What the TensorCore owes the SparseCore call, its waits recorded so far at level zero. -/
abbrev dues (c : Dev nD) : sProp 𝕄 :=
  iprop(∃ Wd, ⌜(K (F := F)).WBelow (SparseCore.T c) Wd 0⌝ ∗ owes (SparseCore.T c) ((K (F := F)).Otc c 0) Wd)

set_option backward.isDefEq.respectTransparency.types false in
/-- The call as a region: entered from every unscoped buffer at `W c` and the dues, left with the history rewritten. -/
def region : Pipeline.RegionSeg (pcfgs (F := F)) adm (pdats W) none defs₀ 𝒱₀ (K (F := F)).L (K (F := F)).lev 0 where
  win := launch0.win.to₀
  block_pos := launch0.block_pos
  stage_whole := launch0.stage_whole
  K := PEmpty
  osem k := k.elim
  ho := Pipeline.OwnSemFacts.none _
  hbody c := body_obligation (atRefs W) c
  hwaits c := Pipeline.cellsWaits_of_cut (Pipeline.pin (pcfgs (F := F)) adm) (pdats W) none 0 c 0 ((K (F := F)).Otc c 0) (fun _ => rfl)
    (fun _ _ => Finset.mem_univ _) (fun _ _ => le_rfl) (fun g i h => ⟨Finset.mem_univ _, by
      have := SparseCore.Cfg.lev_of_Otc_pos (K := K (F := F)) h
      omega⟩)
  pre c := iprop(StableHlo.held (c : Thread nD τ) (Pipeline.ucRefs τ sig) (W c) ∗ dues c)
  post c := iprop(StableHlo.held (c : Thread nD τ) (Pipeline.ucRefs τ sig) (afterHist W c) ∗ dues c)
  X _ := BI.emp
  Y _ := BI.emp
  Z c := StableHlo.held (c : Thread nD τ) (Pipeline.ucRefs τ sig \ Pipeline.arrRefs spec0) (W c)
  hentry c := by
    rw [Pipeline.ownSems0_none, Pipeline.prefHeld_of_none _ rfl,
      Pipeline.arrays_held (pcfgs (F := F)) adm (pdats W) 0 launch0.toP c (fun w => by fin_cases w <;> rfl)
        ((pdats W 0 c).arrAt · 0) (W c) (fun w => by fin_cases w <;> rfl),
      StableHlo.held_sub_split (c : Thread nD τ) (Pipeline.arrRefs_sub_ucRefs spec0 (by decide)) (W c)]
    iintro ⟨⟨⟨Ha, Hr⟩, %Wd, %hW, HO⟩, -, -⟩
    imodintro
    isplitl [Ha]; · iexact Ha
    isplitr; · iempintro
    isplitl [HO]
    · unfold Pipeline.Dat.owesAt Pipeline.owesWithin Pipeline.Dat.bound
      iexists Wd; isplitr
      · ipureintro
        exact fun p hp => Or.inl (hW p hp)
      iexact HO
    isplitr; · iempintro
    iexact Hr
  hin c := by
    iintro ⟨-, -, -⟩
    iempintro
  hout c := by
    rw [Pipeline.ownSems0_none]
    iintro -
    isplitr; · iempintro
    isplitr; · iempintro
    iapply (Entails.of_eq (scopedRest0_eq c).symm)
    iempintro
  hexit c := by
    rw [Pipeline.arrays_held (pcfgs (F := F)) adm (pdats W) 0 launch0.toP c (fun w => by fin_cases w <;> rfl)
        ((pdats W 0 c).arrAt · cfg0.N) (afterHist W c) (fun w => final_arrays W c w),
      StableHlo.held_sub_split (c : Thread nD τ) (Pipeline.arrRefs_sub_ucRefs spec0 (by decide)) (afterHist W c),
      StableHlo.held_congr (c : Thread nD τ) (afterHist_off W c)]
    iintro ⟨Ha, HO, -, Hr⟩
    imodintro
    isplitl [Ha Hr]
    · isplitl [Ha]; · iexact Ha
      iexact Hr
    unfold Pipeline.Dat.owesAt Pipeline.owesWithin Pipeline.Dat.bound
    icases HO with ⟨%Wd, %hW, HO⟩
    iexists Wd; isplitr
    · ipureintro
      intro p hp
      rcases hW hp with h | ⟨w, s, rfl⟩
      · exact h
      · exact le_rfl
    iexact HO

end Cert.Proof.KernelIdeal

end
-- ==== Proof.IdealValues.lean ====
/-
  What the SparseCore kernel leaves in memory, as functions of the arrays it reads: the words one lane of one board
  cell is computed from, the cell's new value, and the contents of the tile's scratches between two trips of its
  loops.
-/
module

public import proofs.«01_k».proof.Proof.IdealBase
public import Idealize.ShloMosaic.Lib.ValueIdxCore

@[expose] public section

set_option maxRecDepth 16384

noncomputable section

namespace Cert.Proof.KernelIdeal

open Cert.KernelIdeal Cert.KernelIdeal.Gen
open Idealize.ShloMosaic Idealize.ShloMosaic.ValueIdx

variable {F : FTy → Type} [FloatOps F]

/-- A board coordinate clipped to 0 … 18. -/
def clip (v : BitVec 32) : BitVec 32 := IntOp.minsi 18#32 (IntOp.maxsi 0#32 v)

theorem clip_lt (v : BitVec 32) : (clip v).toNat < 19 := by
  unfold clip IntOp.minsi IntOp.maxsi
  have h18 : (18#32 : BitVec 32).toInt = 18 := by decide
  have h0 : (0#32 : BitVec 32).toInt = 0 := by decide
  have := v.toInt_eq_toNat_cond
  by_cases hv : v.slt 0#32
  · rw [if_pos hv]; decide
  · rw [if_neg hv]
    split
    · decide
    · rename_i h
      rw [BitVec.slt_iff_toInt_lt] at hv h
      rw [h0] at hv; rw [h18] at h
      have := v.isLt
      split at * <;> omega

/-- The clipped coordinate as a board coordinate. -/
def clipFin (v : BitVec 32) : Fin 19 := ⟨(clip v).toNat, clip_lt v⟩

/-- The positions' row `k`, as the tile's scratch holds it. -/
def posRow (k : Fin 2) (f5 : Vec F S2x512 .i32) : Vec F S512 .i32 := fun x => f5 (ix2 k (x 0))

/-- The group of the `k`-th neighbour of lane `l`'s move. -/
def grp (f5 : Vec F S2x512 .i32) (f6 : Vec F S19x19x4x512 .i32) (k : Fin 4) (l : Fin 512) : BitVec 32 :=
  f6 (ix4 (clipFin (f5 (ix2 0 l))) (clipFin (f5 (ix2 1 l))) k l)

/-- One lane of one board cell: the cell `(w, c)`, the move `(rv, cv)` by `ply`, the cell's group root `rt`, the four
    groups next to the move, the cell's value before. -/
def cellVal (w c rv cv ply rt g0 g1 g2 g3 : BitVec 32) (b : F .f32) : F .f32 :=
  let play := IntOp.andi (IntOp.cmpi .sge rv 0#32) (IntOp.cmpi .sge cv 0#32)
  let hit (g : BitVec 32) := IntOp.andi (IntOp.cmpi .eq rt g) (IntOp.cmpi .sge g 0#32)
  Scalar.select (IntOp.andi play (IntOp.ori (IntOp.ori (IntOp.ori (hit g0) (hit g1)) (hit g2)) (hit g3)))
    (Scalar.ofBits .f32 0xBF800000#32)
    (Scalar.select (IntOp.andi (IntOp.andi play (IntOp.cmpi .eq (clip rv) w)) (IntOp.cmpi .eq (clip cv) c))
      (FloatOps.sitofp .f32 ply) b)

/-- The board after the move, cell by cell. -/
def boardVal (f1 : Vec F S19x19x512 .f32) (f4 : Vec F S368x512 .i32) (f5 : Vec F S2x512 .i32) (f3 : Vec F S512 .i32)
    (f6 : Vec F S19x19x4x512 .i32) (r c : Fin 19) (l : Fin 512) : F .f32 :=
  cellVal (BitVec.ofNat 32 r.val) (BitVec.ofNat 32 c.val) (f5 (ix2 0 l)) (f5 (ix2 1 l)) (f3 (ix1 l))
    (f4 (ix2 (n0 := 368) ⟨19 * r.val + c.val, by omega⟩ l)) (grp f5 f6 0 l) (grp f5 f6 1 l) (grp f5 f6 2 l) (grp f5 f6 3 l)
    (f1 (ix3 r c l))

/-- The same as an array. -/
def boardArr (f1 : Vec F S19x19x512 .f32) (f4 : Vec F S368x512 .i32) (f5 : Vec F S2x512 .i32) (f3 : Vec F S512 .i32)
    (f6 : Vec F S19x19x4x512 .i32) : Vec F S19x19x512 .f32 := fun x => boardVal f1 f4 f5 f3 f6 (x 0) (x 1) (x 2)

/-- The row scratch when `n` chunks of sixteen lanes are done and `m` cells of the next one. -/
def rowMid (f1 : Vec F S19x19x512 .f32) (f4 : Vec F S368x512 .i32) (f5 : Vec F S2x512 .i32) (f3 : Vec F S512 .i32)
    (f6 : Vec F S19x19x4x512 .i32) (r : Fin 19) (n m : ℕ) : Vec F S19x512 .f32 := fun x =>
  if (x 1).val < 16 * n ∨ ((x 1).val < 16 * (n + 1) ∧ (x 0).val < m) then boardVal f1 f4 f5 f3 f6 r (x 0) (x 1)
  else f1 (ix3 r (x 0) (x 1))

end Cert.Proof.KernelIdeal

end
-- ==== Proof.IdealStepBoard.lean ====
/-
  One trip of the loops that rewrite a tile's board row: sixteen lanes of one cell, from the words the row's scratches
  hold, and the row as it stands between two trips.
-/
module

public import proofs.«01_k».proof.Proof.IdealValues
public import Idealize.ShloMosaic.Lib.Writes
public import Idealize.ShloMosaic.Lib.WritesUnit
public import Idealize.ShloMosaic.Lib.ValueLayout

@[expose] public section

set_option maxRecDepth 16384

noncomputable section

namespace Cert.Proof.KernelIdeal

open Cert.KernelIdeal Cert.KernelIdeal.Gen
open Idealize.ShloMosaic Idealize.ShloMosaic.ValueIdx
open Idealize.ShloMosaic.SparseCore (S V T)
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Tactic

variable {F : FTy → Type} [FloatOps F]

local notation "𝕄" => MT nD τ sig (HIx 1) (Elt F) ℕ UU ℕ

theorem off15_row0 : ∀ (i : grid1.Coords) (_ : k1_cond1 i = 1#1) (t4 : Fin k1_t4_loop.trips),
    k1_off2 i 0 + k1_off15 i ⟨0, by decide⟩ t4 0 = 19 * (2 * (i 1).val + (i 0).val) + t4.val := by decide +kernel

theorem off15_row (i : grid1.Coords) (h : k1_cond1 i = 1#1) (t3 : Fin k1_t3_loop.trips) (t4 : Fin k1_t4_loop.trips) :
    k1_off2 i 0 + k1_off15 i t3 t4 0 = 19 * (2 * (i 1).val + (i 0).val) + t4.val :=
  (congrArg (k1_off2 i 0 + ·) (show k1_off15 i t3 t4 0 = k1_off15 i ⟨0, by decide⟩ t4 0 by unfold k1_off15; rfl)).trans (off15_row0 i h t4)

theorem off15_col (i : grid1.Coords) (t3 : Fin k1_t3_loop.trips) (t4 : Fin k1_t4_loop.trips) : k1_off15 i t3 t4 1 = 16 * t3.val :=
  congrFun (k1_off9_eq t3) 0

theorem off2_col (i : grid1.Coords) : k1_off2 i 1 = 0 := rfl

theorem cond1_lt : ∀ (i : grid1.Coords), k1_cond1 i = 1#1 → 2 * (i 1).val + (i 0).val < 19 := by decide +kernel

/-- A whole buffer of the tile's thread at a share. -/
abbrev at_ {sp : Space} {s : Shape} {e : EltTy} (d : Dev nD) (L : grid1.Coords) (m : Memref sig .scVector sp s e) (q : PosShare TreeShare)
    (f : Buf (Elt F) (m.view.loc (thr d L))) : sProp 𝕄 := m.view.loc (thr d L) ↦{q} f

/-- One lane of the payload the board loop stores. -/
theorem pay8_apply (v1 : BitVec 32) (v33 v35 v50 : Vec F S16 .i32) (g0 g1 g2 g3 : Vec F S1x16 .i32) (t4 : Fin k1_t4_loop.trips)
    (b : Vec F S1x16 .f32) (rt : Vec F S1x16 .i32) (j : Fin 16) :
    k1_pay8 v1 v33 v35 v50 g0 g1 g2 g3 t4 b rt (ix1 j)
      = cellVal v1 (BitVec.ofNat 32 t4.val) (v33 (ix1 j)) (v35 (ix1 j)) (v50 (ix1 j)) (rt (ix2 (0 : Fin 1) j)) (g0 (ix2 (0 : Fin 1) j))
          (g1 (ix2 (0 : Fin 1) j)) (g2 (ix2 (0 : Fin 1) j)) (g3 (ix2 (0 : Fin 1) j)) (b (ix2 (0 : Fin 1) j)) := by
  have hiv : BitVec.ofNat 32 t4.val = Scf.iv 0#32 1#32 t4.val := by
    rw [Scf.iv, BitVec.mul_one, BitVec.zero_add]
  rw [hiv]
  simp only [← shapeCast_1a_a_apply (a := 16) _ shapeCasts_S1x16_S16 j]
  rfl

/-- Lane `j` of chunk `t`. -/
abbrev lane (t : ℕ) (ht : t < 32) (j : Fin 16) : Fin 512 := ⟨16 * t + j.val, by omega⟩

theorem t1_lt (t : Fin k1_t1_loop.trips) : t.val < 19 := lt_of_lt_of_le t.isLt k1_t1_abs.2.1
theorem t2_lt (t : Fin k1_t2_loop.trips) : t.val < 32 := lt_of_lt_of_le t.isLt k1_t2_abs.2.1
theorem t3_lt (t : Fin k1_t3_loop.trips) : t.val < 32 := lt_of_lt_of_le t.isLt k1_t3_abs.2.1
theorem t4_lt (t : Fin k1_t4_loop.trips) : t.val < 19 := lt_of_lt_of_le t.isLt k1_t4_abs.2.1

/-- The board row tile `L` works on. -/
def rowFin (L : grid1.Coords) (h1 : k1_cond1 L = 1#1) : Fin 19 := ⟨2 * (L 1).val + (L 0).val, cond1_lt L h1⟩

/-- Position `(0, j)` of a row's sixteen lanes, in the array. -/
theorem emb_row2 {A : ℕ} (off : Fin 2 → ℕ) (inb : ∀ a, off a + S1x16.size a ≤ (⟨2, ![A, 512]⟩ : Shape).size a) (r : Fin A) (l : Fin 512)
    (j : Fin 16) (h0 : off 0 = r.val) (h1 : off 1 + j.val = l.val) :
    (Rect.unit (s := ⟨2, ![A, 512]⟩) off S1x16.size inb).emb (ix2 (0 : Fin 1) j) = ix2 r l := by
  funext a
  match a with
  | ⟨0, _⟩ => exact Fin.ext (by change off 0 + 1 * 0 = r.val; omega)
  | ⟨1, _⟩ => exact Fin.ext (by change off 1 + 1 * j.val = l.val; omega)

/-- Position `j` of sixteen words, in the array. -/
theorem emb_row1 (off : Fin 1 → ℕ) (inb : ∀ a, off a + S16.size a ≤ S512.size a) (l : Fin 512)
    (j : Fin 16) (h : off 0 + j.val = l.val) : (Rect.unit (s := S512) off S16.size inb).emb (ix1 j) = ix1 l := by
  funext a
  match a with
  | ⟨0, _⟩ => exact Fin.ext (by change off 0 + 1 * j.val = l.val; omega)

/-- A load of sixteen words of scratch 4. -/
theorem readAt_scr4 (f : Vec F S512 .i32) (off : Fin 1 → ℕ) (inb : ∀ a, off a + S16.size a ≤ S512.size a) (l : Fin 512) (j : Fin 16)
    (h : off 0 + j.val = l.val) :
    View.readAt (Elt F) (Memref.whole cc1_scratch4).view (Rect.unit (s := S512) off S16.size inb).toLoadRect f (ix1 j) = f (ix1 l) :=
  congrArg f (emb_row1 off inb l j h)

/-- A load of sixteen words of scratch 5. -/
theorem readAt_scr5 (f : Vec F S512 .i32) (off : Fin 1 → ℕ) (inb : ∀ a, off a + S16.size a ≤ S512.size a) (l : Fin 512) (j : Fin 16)
    (h : off 0 + j.val = l.val) :
    View.readAt (Elt F) (Memref.whole cc1_scratch5).view (Rect.unit (s := S512) off S16.size inb).toLoadRect f (ix1 j) = f (ix1 l) :=
  congrArg f (emb_row1 off inb l j h)

/-- A load of sixteen words of scratch 6. -/
theorem readAt_scr6 (f : Vec F S512 .i32) (off : Fin 1 → ℕ) (inb : ∀ a, off a + S16.size a ≤ S512.size a) (l : Fin 512) (j : Fin 16)
    (h : off 0 + j.val = l.val) :
    View.readAt (Elt F) (Memref.whole cc1_scratch6).view (Rect.unit (s := S512) off S16.size inb).toLoadRect f (ix1 j) = f (ix1 l) :=
  congrArg f (emb_row1 off inb l j h)

/-- A load of sixteen words of one row of the group scratch. -/
theorem readAt_scr3 (f : Vec F S4x512 .i32) (off : Fin 2 → ℕ) (inb : ∀ a, off a + S1x16.size a ≤ S4x512.size a) (r : Fin 4) (l : Fin 512)
    (j : Fin 16) (h0 : off 0 = r.val) (h1 : off 1 + j.val = l.val) :
    View.readAt (Elt F) (Memref.whole cc1_scratch3).view (Rect.unit (s := S4x512) off S1x16.size inb).toLoadRect f (ix2 (0 : Fin 1) j) = f (ix2 r l) :=
  congrArg f (emb_row2 (A := 4) off inb r l j h0 h1)

/-- What a buffer of rows reads after sixteen lanes of one row were stored. -/
theorem read_store_row2 {A : ℕ} {e : EltTy} {sp : Space} {κ : Kind} (v : View sig κ sp (⟨2, ![A, 512]⟩ : Shape) e) (f : v.ty.Contents (Elt F))
    {off : Fin 2 → ℕ} (inb : ∀ a, off a + S1x16.size a ≤ (⟨2, ![A, 512]⟩ : Shape).size a) (w : Vec F S1x16 e)
    (Ls : List (View.Piece (Elt F) (⟨2, ![A, 512]⟩ : Shape) e)) (r0 t : ℕ) (hoff : off = ![r0, 16 * t]) (r : Fin A) (l : Fin 512) :
    v.read (Elt F) (v.writes (Elt F) f (⟨Rect.unit (s := ⟨2, ![A, 512]⟩) off S1x16.size inb, w⟩ :: Ls)) (ix2 r l)
      = if h : r.val = r0 ∧ 16 * t ≤ l.val ∧ l.val < 16 * t + 16 then w (ix2 (0 : Fin 1) (⟨l.val - 16 * t, by omega⟩ : Fin 16))
        else v.read (Elt F) (v.writes (Elt F) f Ls) (ix2 r l) := by
  by_cases hin : r.val = r0 ∧ 16 * t ≤ l.val ∧ l.val < 16 * t + 16
  · rw [dif_pos hin]
    obtain ⟨hr, hl, hl'⟩ := hin
    refine View.read_writes_cons_unit_of_mem v f inb w Ls (ix2 r l) (ix2 (0 : Fin 1) (⟨l.val - 16 * t, by omega⟩ : Fin 16)) hoff
      (Fin.forall_fin_two.mpr ⟨?_, ?_⟩)
    · change r.val = r0 + 0; omega
    · change l.val = 16 * t + (l.val - 16 * t); omega
  · rw [dif_neg hin]
    refine View.read_writes_cons_unit_of_not_mem v f inb w Ls (ix2 r l) hoff (if r.val = r0 then 1 else 0) ?_
    by_cases hr : r.val = r0
    · rw [if_pos hr]
      change l.val < 16 * t ∨ 16 * t + 16 ≤ l.val
      omega
    · rw [if_neg hr]
      change r.val < r0 ∨ r0 + 1 ≤ r.val
      omega

section Tile

variable (f1 : Vec F S19x19x512 .f32) (f4 : Vec F S368x512 .i32) (f5 : Vec F S2x512 .i32) (f3 : Vec F S512 .i32)
  (f6 : Vec F S19x19x4x512 .i32)

/-- What the root scratch holds: forty rows of the padded roots. -/
def rootRows (L : grid1.Coords) (h1 : k1_cond1 L = 1#1) : Vec F S40x512 .i32 := fun x =>
  f4 (ix2 (n0 := 368) ⟨k1_off2 L 0 + (x 0).val, by have := k1_off2_inb L h1 0; have h := (x 0).isLt; change _ + 40 ≤ 368 at this; change (x 0).val < 40 at h; omega⟩ (x 1))

theorem rowMid_step (L : grid1.Coords) (h1 : k1_cond1 L = 1#1) (v1 : BitVec 32) (hv1 : v1 = BitVec.ofNat 32 (rowFin L h1).val)
    (t3 : Fin k1_t3_loop.trips) (t4 : Fin k1_t4_loop.trips)
    (v33 v35 v50 : Vec F S16 .i32) (g0 g1 g2 g3 : Vec F S1x16 .i32)
    (h33 : ∀ j, v33 (ix1 j) = f5 (ix2 0 (lane t3 (t3_lt t3) j))) (h35 : ∀ j, v35 (ix1 j) = f5 (ix2 1 (lane t3 (t3_lt t3) j)))
    (h50 : ∀ j, v50 (ix1 j) = f3 (ix1 (lane t3 (t3_lt t3) j)))
    (hg0 : ∀ j, g0 (ix2 (0 : Fin 1) j) = grp (F := F) f5 f6 0 (lane t3 (t3_lt t3) j)) (hg1 : ∀ j, g1 (ix2 (0 : Fin 1) j) = grp (F := F) f5 f6 1 (lane t3 (t3_lt t3) j))
    (hg2 : ∀ j, g2 (ix2 (0 : Fin 1) j) = grp (F := F) f5 f6 2 (lane t3 (t3_lt t3) j)) (hg3 : ∀ j, g3 (ix2 (0 : Fin 1) j) = grp (F := F) f5 f6 3 (lane t3 (t3_lt t3) j)) :
    (Memref.whole cc1_scratch0).view.writes (Elt F) (rowMid f1 f4 f5 f3 f6 (rowFin L h1) t3 t4)
      [⟨Rect.unit (s := S19x512) (k1_off14 t3 t4) S1x16.size (k1_off14_inb L t3 t4 h1),
          shapeCast S1x16
            (k1_pay8 v1 v33 v35 v50 g0 g1 g2 g3 t4
              (View.readAt (Elt F) (Memref.whole cc1_scratch0).view (Rect.unit (s := S19x512) (k1_off14 t3 t4) S1x16.size (k1_off14_inb L t3 t4 h1)).toLoadRect
                (rowMid f1 f4 f5 f3 f6 (rowFin L h1) t3 t4))
              (View.readAt (Elt F) (Memref.whole cc1_scratch1).view
                (Rect.unit (s := S40x512) (k1_off15 L t3 t4) S1x16.size (k1_off15_inb L t3 t4 h1)).toLoadRect (rootRows (F := F) f4 L h1)))
            shapeCasts_S16_S1x16⟩]
      = rowMid f1 f4 f5 f3 f6 (rowFin L h1) t3 (t4.val + 1) := by
  have ht3 := t3_lt t3
  have ht4 := t4_lt t4
  funext x
  obtain ⟨c, l, rfl⟩ : ∃ (c : Fin 19) (l : Fin 512), x = ix2 c l := ⟨x 0, x 1, eq_ix2 x⟩
  refine (read_store_row2 (F := F) (A := 19) (Memref.whole cc1_scratch0).view _ (k1_off14_inb L t3 t4 h1) _ [] t4.val t3.val (k1_off14_eq t3 t4) c l).trans ?_
  by_cases hin : c.val = t4.val ∧ 16 * t3.val ≤ l.val ∧ l.val < 16 * t3.val + 16
  · rw [dif_pos hin]
    obtain ⟨hc, hl, hl'⟩ := hin
    refine (shapeCast_a_1a_apply (a := 16) _ shapeCasts_S16_S1x16 0 _).trans ?_
    rw [pay8_apply, h33, h35, h50, hg0, hg1, hg2, hg3]
    have hlane : lane t3 ht3 (⟨l.val - 16 * t3.val, by omega⟩ : Fin 16) = l := Fin.ext (by change 16 * t3.val + (l.val - 16 * t3.val) = _; omega)
    rw [hlane, hv1]
    have hb : View.readAt (Elt F) (Memref.whole cc1_scratch0).view (Rect.unit (s := S19x512) (k1_off14 t3 t4) S1x16.size (k1_off14_inb L t3 t4 h1)).toLoadRect
                (rowMid f1 f4 f5 f3 f6 (rowFin L h1) t3 t4) (ix2 (0 : Fin 1) (⟨l.val - 16 * t3.val, by omega⟩ : Fin 16)) = f1 (ix3 (rowFin L h1) c l) := by
      refine (congrArg (rowMid f1 f4 f5 f3 f6 (rowFin L h1) t3 t4) (?_ : _ = ix2 c l)).trans ?_
      · exact emb_row2 (A := 19) _ (k1_off14_inb L t3 t4 h1) c l _ (by rw [k1_off14_eq]; exact hc.symm) (by
          rw [k1_off14_eq]; change 16 * t3.val + (l.val - 16 * t3.val) = l.val; omega)
      · unfold rowMid
        rw [if_neg]
        change ¬ (l.val < _ ∨ (l.val < _ ∧ c.val < _))
        omega
    have hr : View.readAt (Elt F) (Memref.whole cc1_scratch1).view
                (Rect.unit (s := S40x512) (k1_off15 L t3 t4) S1x16.size (k1_off15_inb L t3 t4 h1)).toLoadRect (rootRows (F := F) f4 L h1) (ix2 (0 : Fin 1) (⟨l.val - 16 * t3.val, by omega⟩ : Fin 16))
        = f4 (ix2 (n0 := 368) ⟨19 * (rowFin L h1).val + c.val, by omega⟩ l) := by
      have h15 := off15_row L h1 t3 t4
      have hrow : (rowFin L h1).val = 2 * (L 1).val + (L 0).val := rfl
      have h15b : k1_off15 L t3 t4 0 < 40 := by
        have := k1_off15_inb L t3 t4 h1 0; change _ + 1 ≤ 40 at this; omega
      refine (congrArg (rootRows (F := F) f4 L h1) (emb_row2 (A := 40) _ (k1_off15_inb L t3 t4 h1) ⟨k1_off15 L t3 t4 0, h15b⟩ l _ rfl (by
          rw [off15_col]; change 16 * t3.val + (l.val - 16 * t3.val) = l.val; omega))).trans ?_
      unfold rootRows
      refine congrArg f4 (congrArg (fun r => ix2 r l) (Fin.ext ?_))
      change k1_off2 L 0 + k1_off15 L t3 t4 0 = 19 * (rowFin L h1).val + c.val
      omega
    rw [hb, hr]
    unfold rowMid
    rw [if_pos (Or.inr ⟨by change l.val < _; omega, by change c.val < _; omega⟩)]
    unfold boardVal
    rw [← hc]
  · rw [dif_neg hin]
    change rowMid f1 f4 f5 f3 f6 (rowFin L h1) t3 t4 (ix2 c l) = _
    unfold rowMid
    refine if_congr ?_ rfl rfl
    change (l.val < _ ∨ (l.val < _ ∧ c.val < _)) ↔ (l.val < _ ∨ (l.val < _ ∧ c.val < _))
    omega

/-- The groups next to each lane's move, as the group scratch holds them once complete. -/
def grpArr : Vec F S4x512 .i32 := fun x => grp (F := F) f5 f6 (x 0) (x 1)

theorem rowMid_next (r : Fin 19) (n : ℕ) : rowMid f1 f4 f5 f3 f6 r n 19 = rowMid f1 f4 f5 f3 f6 r (n + 1) 0 := by
  funext x
  unfold rowMid
  have h := (x 0).isLt
  change (x 0).val < 19 at h
  refine if_congr ?_ rfl rfl
  omega

variable (d : Dev nD) (L : grid1.Coords) (h1 : k1_cond1 L = 1#1)

/-- What the board loop's inner loop holds after `m` cells of chunk `n`. -/
def invCells (n m : ℕ) : sProp 𝕄 :=
  iprop(at_ d L (Memref.whole cc1_scratch1) fullShare (rootRows (F := F) f4 L h1)
    ∗ at_ d L (Memref.whole cc1_scratch0) fullShare (rowMid f1 f4 f5 f3 f6 (rowFin L h1) n m))

/-- What the board loop holds after `n` chunks. -/
def invBoard (n : ℕ) : sProp 𝕄 :=
  iprop(at_ d L (Memref.whole cc1_scratch4) fullShare (posRow (F := F) 0 f5)
    ∗ at_ d L (Memref.whole cc1_scratch5) fullShare (posRow (F := F) 1 f5)
    ∗ at_ d L (Memref.whole cc1_scratch6) fullShare f3
    ∗ at_ d L (Memref.whole cc1_scratch3) fullShare (grpArr (F := F) f5 f6)
    ∗ invCells f1 f4 f5 f3 f6 d L h1 n 0)

theorem t4_step (v1 v5 v6 v8 v10 c8 : BitVec 32) (hv1 : v1 = BitVec.ofNat 32 (rowFin L h1).val)
    (t3 : Fin k1_t3_loop.trips) (t4 : Fin k1_t4_loop.trips)
    (v33 v35 v50 : Vec F S16 .i32) (g0 g1 g2 g3 : Vec F S1x16 .i32)
    (h33 : ∀ j, v33 (ix1 j) = f5 (ix2 0 (lane t3 (t3_lt t3) j))) (h35 : ∀ j, v35 (ix1 j) = f5 (ix2 1 (lane t3 (t3_lt t3) j)))
    (h50 : ∀ j, v50 (ix1 j) = f3 (ix1 (lane t3 (t3_lt t3) j)))
    (hg0 : ∀ j, g0 (ix2 (0 : Fin 1) j) = grp (F := F) f5 f6 0 (lane t3 (t3_lt t3) j)) (hg1 : ∀ j, g1 (ix2 (0 : Fin 1) j) = grp (F := F) f5 f6 1 (lane t3 (t3_lt t3) j))
    (hg2 : ∀ j, g2 (ix2 (0 : Fin 1) j) = grp (F := F) f5 f6 2 (lane t3 (t3_lt t3) j)) (hg3 : ∀ j, g3 (ix2 (0 : Fin 1) j) = grp (F := F) f5 f6 3 (lane t3 (t3_lt t3) j)) :
    invCells f1 f4 f5 f3 f6 d L h1 t3 t4
      ⊢ wp frame (wpE (defs₀ (F := F)) 𝒱₀ (thr d L) none) Set.univ
          (k1_t4_body L (Memref.whole main_v1_scv) (Memref.isWhole_whole _) (Memref.whole main_v4_scv) (Memref.isWhole_whole _)
    (Memref.whole main_v5_scv) (Memref.isWhole_whole _) (Memref.whole main_arg3_scv) (Memref.isWhole_whole _)
    (Memref.whole main_v6_scv) (Memref.isWhole_whole _) (Memref.whole main_v9_scv) (Memref.isWhole_whole _)
    (Memref.whole cc1_scratch0) (Memref.isWhole_whole _) (Memref.whole cc1_scratch1) (Memref.isWhole_whole _)
    (Memref.whole cc1_scratch2) (Memref.isWhole_whole _) (Memref.whole cc1_scratch3) (Memref.isWhole_whole _)
    (Memref.whole cc1_scratch4) (Memref.isWhole_whole _) (Memref.whole cc1_scratch5) (Memref.isWhole_whole _)
    (Memref.whole cc1_scratch6) (Memref.isWhole_whole _) cc1_scoped0 cc1_scoped1 cc1_scoped2 cc1_scoped3 cc1_scoped4 cc1_scoped5 cc1_scoped6
            v1 h1 v5 c8 v6 v8 v10 t3 v33 v35 v50 g0 g1 g2 g3 t4 ())
          fun _ => invCells f1 f4 f5 f3 f6 d L h1 t3 (t4.val + 1) := by
  unfold k1_t4_body invCells at_
  iintro ⟨Hr, Hb⟩
  sl_exec
  sl_step
  rw [rowMid_step f1 f4 f5 f3 f6 L h1 v1 hv1 t3 t4 v33 v35 v50 g0 g1 g2 g3 h33 h35 h50 hg0 hg1 hg2 hg3]
  isplitl [Hr]; · iexact Hr
  iexact Hb

theorem t3_step (v1 v5 v6 v8 v10 c8 : BitVec 32) (hv1 : v1 = BitVec.ofNat 32 (rowFin L h1).val) (t3 : Fin k1_t3_loop.trips) :
    invBoard f1 f4 f5 f3 f6 d L h1 t3
      ⊢ wp frame (wpE (defs₀ (F := F)) 𝒱₀ (thr d L) none) Set.univ
          (k1_t3_body L (Memref.whole main_v1_scv) (Memref.isWhole_whole _) (Memref.whole main_v4_scv) (Memref.isWhole_whole _)
    (Memref.whole main_v5_scv) (Memref.isWhole_whole _) (Memref.whole main_arg3_scv) (Memref.isWhole_whole _)
    (Memref.whole main_v6_scv) (Memref.isWhole_whole _) (Memref.whole main_v9_scv) (Memref.isWhole_whole _)
    (Memref.whole cc1_scratch0) (Memref.isWhole_whole _) (Memref.whole cc1_scratch1) (Memref.isWhole_whole _)
    (Memref.whole cc1_scratch2) (Memref.isWhole_whole _) (Memref.whole cc1_scratch3) (Memref.isWhole_whole _)
    (Memref.whole cc1_scratch4) (Memref.isWhole_whole _) (Memref.whole cc1_scratch5) (Memref.isWhole_whole _)
    (Memref.whole cc1_scratch6) (Memref.isWhole_whole _) cc1_scoped0 cc1_scoped1 cc1_scoped2 cc1_scoped3 cc1_scoped4 cc1_scoped5 cc1_scoped6
            v1 h1 v5 c8 v6 v8 v10 t3 ())
          fun _ => invBoard f1 f4 f5 f3 f6 d L h1 (t3.val + 1) := by
  unfold k1_t3_body invBoard
  iintro ⟨H4, H5, H6, H3, Hc⟩
  unfold at_
  sl_exec
  sl_for (fun m _ => invCells f1 f4 f5 f3 f6 d L h1 t3 m) $$ [Hc]
  case region =>
    intro k _
    refine t4_step f1 f4 f5 f3 f6 d L h1 v1 v5 v6 v8 v10 c8 hv1 t3 k _ _ _ _ _ _ _ ?_ ?_ ?_ ?_ ?_ ?_ ?_
    · exact fun j => readAt_scr4 (posRow (F := F) 0 f5) _ (k1_off9_inb L t3 h1) (lane t3 (t3_lt t3) j) j (congrArg (· + j.val) (congrFun (k1_off9_eq t3) 0))
    · exact fun j => readAt_scr5 (posRow (F := F) 1 f5) _ (k1_off9_inb L t3 h1) (lane t3 (t3_lt t3) j) j (congrArg (· + j.val) (congrFun (k1_off9_eq t3) 0))
    · exact fun j => readAt_scr6 (f3) _ (k1_off9_inb L t3 h1) (lane t3 (t3_lt t3) j) j (congrArg (· + j.val) (congrFun (k1_off9_eq t3) 0))
    · exact fun j => readAt_scr3 (grpArr (F := F) f5 f6) _ (k1_off10_inb L t3 h1) 0 (lane t3 (t3_lt t3) j) j (congrFun (k1_off10_eq t3) 0) (congrArg (· + j.val) (congrFun (k1_off10_eq t3) 1))
    · exact fun j => readAt_scr3 (grpArr (F := F) f5 f6) _ (k1_off11_inb L t3 h1) 1 (lane t3 (t3_lt t3) j) j (congrFun (k1_off11_eq t3) 0) (congrArg (· + j.val) (congrFun (k1_off11_eq t3) 1))
    · exact fun j => readAt_scr3 (grpArr (F := F) f5 f6) _ (k1_off12_inb L t3 h1) 2 (lane t3 (t3_lt t3) j) j (congrFun (k1_off12_eq t3) 0) (congrArg (· + j.val) (congrFun (k1_off12_eq t3) 1))
    · exact fun j => readAt_scr3 (grpArr (F := F) f5 f6) _ (k1_off13_inb L t3 h1) 3 (lane t3 (t3_lt t3) j) j (congrFun (k1_off13_eq t3) 0) (congrArg (· + j.val) (congrFun (k1_off13_eq t3) 1))
  · iexact Hc
  iintro %_ Hc
  sl_exec
  sl_step
  have hl : invCells f1 f4 f5 f3 f6 d L h1 t3 (Scf.trips k1_t4_loop.lb k1_t4_loop.ub k1_t4_loop.st)
      = invCells f1 f4 f5 f3 f6 d L h1 (t3.val + 1) 0 := by
    rw [show Scf.trips k1_t4_loop.lb k1_t4_loop.ub k1_t4_loop.st = 19 by decide]
    unfold invCells
    rw [rowMid_next]
  ihave Hc := (Entails.of_eq hl) $$ Hc
  isplitl [H4]; · iexact H4
  isplitl [H5]; · iexact H5
  isplitl [H6]; · iexact H6
  isplitl [H3]; · iexact H3
  iexact Hc

end Tile

end Cert.Proof.KernelIdeal

end
-- ==== Proof.IdealStepGroups.lean ====
/-
  One trip of the loop that keeps the groups next to each move: for sixteen lanes, where the move lies on the fetched
  board row, the four neighbours' groups are read out of the row and kept; the other lanes stay as they were.
-/
module

public import proofs.«01_k».proof.Proof.IdealStepBoard
public import Idealize.ShloMosaic.Lib.Writes
public import Idealize.ShloMosaic.Lib.WritesUnit
public import Idealize.ShloMosaic.Lib.ValueLayout

@[expose] public section

set_option maxRecDepth 16384

noncomputable section

namespace Cert.Proof.KernelIdeal

open Cert.KernelIdeal Cert.KernelIdeal.Gen
open Idealize.ShloMosaic Idealize.ShloMosaic.ValueIdx
open Idealize.ShloMosaic.SparseCore (S V T)
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Tactic

variable {F : FTy → Type} [FloatOps F]

local notation "𝕄" => MT nD τ sig (HIx 1) (Elt F) ℕ UU ℕ

section Tile

variable (f5 : Vec F S2x512 .i32) (f6 : Vec F S19x19x4x512 .i32)
variable (d : Dev nD) (L : grid1.Coords) (h1 : k1_cond1 L = 1#1)

/-- The groups of one board row, as the tile fetches them. -/
def cgRow (rr : Fin 19) : Vec F S19x4x512 .i32 := fun x => f6 (ix4 rr (x 0) (x 1) (x 2))

theorem idx_inb (v34 v46 v49 : IVec S16 32) (h46 : ∀ x, (v46 x).toNat < 19) (h49 : ∀ x, (v49 x).toNat < 4) (h34 : ∀ x, (v34 x).toNat < 512) :
    ∀ a x, ((![v46, v49, v34] : Fin 3 → IVec S16 32) a x).toNat < S19x4x512.size a := by
  intro a x
  match a with
  | ⟨0, _⟩ => exact h46 x
  | ⟨1, _⟩ => exact h49 x
  | ⟨2, _⟩ => exact h34 x

/-- The lanes' numbers: lane `j` of chunk `t2`. -/
theorem pay1_apply (v28 : IVec S16 32) (hv28 : ∀ j : Fin 16, v28 (ix1 j) = BitVec.ofNat 32 j.val) (t2 : Fin k1_t2_loop.trips) (j : Fin 16) :
    k1_pay1 v28 0#32 1#32 t2 (ix1 j) = BitVec.ofNat 32 (lane t2 (t2_lt t2) j).val := by
  change IntOp.addi (IntOp.muli (Scf.iv 0#32 1#32 t2.val) 16#32) (v28 (ix1 j)) = _
  rw [hv28, Scf.iv, BitVec.mul_one, BitVec.zero_add]
  change BitVec.ofNat 32 t2.val * BitVec.ofNat 32 16 + BitVec.ofNat 32 j.val = _
  rw [← BitVec.ofNat_mul, ← BitVec.ofNat_add, Nat.mul_comm]

theorem pay1_lt (v28 : IVec S16 32) (hv28 : ∀ j : Fin 16, v28 (ix1 j) = BitVec.ofNat 32 j.val) (t2 : Fin k1_t2_loop.trips) (x : S16.Idx) :
    (k1_pay1 v28 0#32 1#32 t2 x).toNat < 512 := by
  obtain ⟨j, rfl⟩ : ∃ j : Fin 16, x = ix1 j := ⟨x 0, eq_ix1 x⟩
  rw [pay1_apply v28 hv28, BitVec.toNat_ofNat]
  have := (lane t2 (t2_lt t2) j).isLt
  exact lt_of_le_of_lt (Nat.mod_le _ _) this

theorem pay2_apply (v38 : Vec F S16 .i32) (x : S16.Idx) : k1_pay2 v38 x = clip (v38 x) := rfl

/-- A gather of the group rows at the head of a program: the program goes on at what the rows hold there. -/
theorem wp_gather0 (d : Dev nD) (L : grid1.Coords) {idxs : Fin S19x4x512.rank → IVec S16 32} {h : ∀ a x, (idxs a x).toNat < S19x4x512.size a}
    {hl : (Memref.whole cc1_scratch2).view.Loads} {α : Type}
    {k : Vec F S16 .i32 → Prog (TpuEff nD τ sig (Elt F) Λ₀ (thr d L).2) α}
    {Q : α → sProp 𝕄} (f : Vec F S19x4x512 .i32) :
    at_ d L (Memref.whole cc1_scratch2) fullShare f
      ⊢ iprop((at_ d L (Memref.whole cc1_scratch2) fullShare f
          -∗ wp frame (wpE (defs₀ (F := F)) 𝒱₀ (thr d L) none) Set.univ (k (loadIdx f idxs h)) Q)
        -∗ wp frame (wpE (defs₀ (F := F)) 𝒱₀ (thr d L) none) Set.univ
            (SparseCore.vectorLoadIdx (Memref.whole cc1_scratch2) idxs h hl >>= k) Q) := by
  have hr := Memref.read_access_whole (Elt F) cc1_scratch2 f
  have h0 := SparseCore.wp_vectorLoadIdx (defs := defs₀ (F := F)) 𝒱₀ (thr d L) none Set.univ
    (base := (Memref.whole cc1_scratch2 : Memref sig .scVector .vmem S19x4x512 .i32)) (idxs := idxs) (h := h) (hl := hl) (k := k) (Q := Q)
    (S := Finset.univ) (q := fullShare) (f := f) (Finset.subset_univ _)
  rw [hr] at h0
  exact h0

/-- A gather at the head of a part of a program. -/
theorem wp_gather (d : Dev nD) (L : grid1.Coords) {idxs : Fin S19x4x512.rank → IVec S16 32} {h : ∀ a x, (idxs a x).toNat < S19x4x512.size a}
    {hl : (Memref.whole cc1_scratch2).view.Loads} {α β : Type}
    {k : Vec F S16 .i32 → Prog (TpuEff nD τ sig (Elt F) Λ₀ (thr d L).2) β} {k' : β → Prog (TpuEff nD τ sig (Elt F) Λ₀ (thr d L).2) α}
    {Q : α → sProp 𝕄} (f : Vec F S19x4x512 .i32) :
    at_ d L (Memref.whole cc1_scratch2) fullShare f
      ⊢ iprop((at_ d L (Memref.whole cc1_scratch2) fullShare f
          -∗ wp frame (wpE (defs₀ (F := F)) 𝒱₀ (thr d L) none) Set.univ (k (loadIdx f idxs h) >>= k') Q)
        -∗ wp frame (wpE (defs₀ (F := F)) 𝒱₀ (thr d L) none) Set.univ
            ((SparseCore.vectorLoadIdx (Memref.whole cc1_scratch2) idxs h hl >>= k) >>= k') Q) := by
  rw [bind_assoc]
  exact wp_gather0 d L (k := fun x => k x >>= k') f

/-- The group scratch is complete for every lane whose move lies above row `rr`, and for the lanes of the first `ch`
    chunks whose move lies on it. -/
def doneG (rr ch : ℕ) (g : Vec F S4x512 .i32) : Prop :=
  ∀ (k : Fin 4) (l : Fin 512), ((clip (f5 (ix2 0 l))).toNat < rr ∨ ((clip (f5 (ix2 0 l))).toNat = rr ∧ l.val < 16 * ch)) →
    g (ix2 k l) = grp (F := F) f5 f6 k l

/-- One lane of what is stored into the group scratch at row `rr`. -/
def cellG (rr : Fin 19) (g : Vec F S4x512 .i32) (k : Fin 4) (l : Fin 512) : BitVec 32 :=
  Scalar.select (IntOp.cmpi .eq (clip (f5 (ix2 0 l))) (BitVec.ofNat 32 rr.val))
    (cgRow (F := F) f6 rr (ix3 (clipFin (f5 (ix2 1 l))) k l)) (g (ix2 k l))

theorem cellG_eq (rr : Fin 19) (ch : ℕ) (g : Vec F S4x512 .i32) (hg : doneG f5 f6 rr.val ch g) (k : Fin 4) (l : Fin 512)
    (h : (clip (f5 (ix2 0 l))).toNat ≤ rr.val) : cellG f5 f6 rr g k l = grp (F := F) f5 f6 k l := by
  unfold cellG
  by_cases he : clip (f5 (ix2 0 l)) = BitVec.ofNat 32 rr.val
  · have : IntOp.cmpi .eq (clip (f5 (ix2 0 l))) (BitVec.ofNat 32 rr.val) = 1#1 := by
      rw [he]; exact congrArg BitVec.ofBool (beq_self_eq_true _)
    rw [this]
    have hr : clipFin (f5 (ix2 0 l)) = rr := Fin.ext (by
      change (clip (f5 (ix2 0 l))).toNat = rr.val
      rw [he, BitVec.toNat_ofNat]; exact Nat.mod_eq_of_lt (by omega))
    unfold grp
    rw [hr]; rfl
  · have : IntOp.cmpi .eq (clip (f5 (ix2 0 l))) (BitVec.ofNat 32 rr.val) = 0#1 :=
      congrArg BitVec.ofBool (beq_eq_false_iff_ne.mpr he)
    rw [this]
    refine (show Scalar.select 0#1 _ (g (ix2 k l)) = g (ix2 k l) from rfl).trans (hg k l (Or.inl (lt_of_le_of_ne h fun hn => he ?_)))
    exact BitVec.eq_of_toNat_eq (by rw [hn, BitVec.toNat_ofNat]; exact (Nat.mod_eq_of_lt (by omega)).symm)

theorem groups_next (rr : Fin 19) (t2 : Fin k1_t2_loop.trips) (g : Vec F S4x512 .i32) (w0 w1 w2 w3 : Vec F S1x16 .i32)
    (h0 : ∀ j, w0 (ix2 (0 : Fin 1) j) = cellG f5 f6 rr g 0 (lane t2 (t2_lt t2) j))
    (h1' : ∀ j, w1 (ix2 (0 : Fin 1) j) = cellG f5 f6 rr g 1 (lane t2 (t2_lt t2) j))
    (h2 : ∀ j, w2 (ix2 (0 : Fin 1) j) = cellG f5 f6 rr g 2 (lane t2 (t2_lt t2) j))
    (h3 : ∀ j, w3 (ix2 (0 : Fin 1) j) = cellG f5 f6 rr g 3 (lane t2 (t2_lt t2) j))
    (hg : doneG f5 f6 rr.val t2.val g) :
    doneG f5 f6 rr.val (t2.val + 1) ((Memref.whole cc1_scratch3).view.writes (Elt F) g
      [⟨Rect.unit (s := S4x512) (k1_off8 t2) S1x16.size (k1_off8_inb L t2 h1), w3⟩,
       ⟨Rect.unit (s := S4x512) (k1_off7 t2) S1x16.size (k1_off7_inb L t2 h1), w2⟩,
       ⟨Rect.unit (s := S4x512) (k1_off6 t2) S1x16.size (k1_off6_inb L t2 h1), w1⟩,
       ⟨Rect.unit (s := S4x512) (k1_off5 t2) S1x16.size (k1_off5_inb L t2 h1), w0⟩]) := by
  intro k l hkl
  have hle : (clip (f5 (ix2 0 l))).toNat ≤ rr.val := by omega
  have hlane (h : 16 * t2.val ≤ l.val ∧ l.val < 16 * t2.val + 16) :
      lane t2 (t2_lt t2) (⟨l.val - 16 * t2.val, by omega⟩ : Fin 16) = l := Fin.ext (by change 16 * t2.val + (l.val - 16 * t2.val) = l.val; omega)
  refine (read_store_row2 (F := F) (A := 4) (Memref.whole cc1_scratch3).view g (k1_off8_inb L t2 h1) w3 _ 3 t2 (k1_off8_eq t2) k l).trans ?_
  by_cases c3 : k.val = 3 ∧ 16 * t2.val ≤ l.val ∧ l.val < 16 * t2.val + 16
  · obtain rfl : k = 3 := Fin.ext c3.1
    rw [dif_pos c3, h3, hlane c3.2]; exact cellG_eq f5 f6 rr t2.val g hg _ l hle
  rw [dif_neg c3]
  refine (read_store_row2 (F := F) (A := 4) (Memref.whole cc1_scratch3).view g (k1_off7_inb L t2 h1) w2 _ 2 t2 (k1_off7_eq t2) k l).trans ?_
  by_cases c2 : k.val = 2 ∧ 16 * t2.val ≤ l.val ∧ l.val < 16 * t2.val + 16
  · obtain rfl : k = 2 := Fin.ext c2.1
    rw [dif_pos c2, h2, hlane c2.2]; exact cellG_eq f5 f6 rr t2.val g hg _ l hle
  rw [dif_neg c2]
  refine (read_store_row2 (F := F) (A := 4) (Memref.whole cc1_scratch3).view g (k1_off6_inb L t2 h1) w1 _ 1 t2 (k1_off6_eq t2) k l).trans ?_
  by_cases c1 : k.val = 1 ∧ 16 * t2.val ≤ l.val ∧ l.val < 16 * t2.val + 16
  · obtain rfl : k = 1 := Fin.ext c1.1
    rw [dif_pos c1, h1', hlane c1.2]; exact cellG_eq f5 f6 rr t2.val g hg _ l hle
  rw [dif_neg c1]
  refine (read_store_row2 (F := F) (A := 4) (Memref.whole cc1_scratch3).view g (k1_off5_inb L t2 h1) w0 [] 0 t2 (k1_off5_eq t2) k l).trans ?_
  by_cases c0 : k.val = 0 ∧ 16 * t2.val ≤ l.val ∧ l.val < 16 * t2.val + 16
  · obtain rfl : k = 0 := Fin.ext c0.1
    rw [dif_pos c0, h0, hlane c0.2]; exact cellG_eq f5 f6 rr t2.val g hg _ l hle
  rw [dif_neg c0]
  have hk := k.isLt
  exact hg k l (by omega)

/-- The stored lane, from the gathered groups and the lanes read before. -/
theorem payG_apply (rr : Fin 19) (t2 : Fin k1_t2_loop.trips) (g : Vec F S4x512 .i32) (k : Fin 4) (v28 : IVec S16 32)
    (hv28 : ∀ j : Fin 16, v28 (ix1 j) = BitVec.ofNat 32 j.val) (v36 v38 : Vec F S16 .i32) (ld : Vec F S1x16 .i32)
    (h36 : ∀ j, v36 (ix1 j) = f5 (ix2 0 (lane t2 (t2_lt t2) j))) (h38 : ∀ j, v38 (ix1 j) = f5 (ix2 1 (lane t2 (t2_lt t2) j)))
    (hld : ∀ j, ld (ix2 (0 : Fin 1) j) = g (ix2 k (lane t2 (t2_lt t2) j))) (kv : IVec S16 32) (hkv : ∀ x, kv x = BitVec.ofNat 32 k.val)
    (hin : ∀ a x, ((![k1_pay2 v38, kv, k1_pay1 v28 0#32 1#32 t2] : Fin 3 → IVec S16 32) a x).toNat < S19x4x512.size a) (j : Fin 16) :
    shapeCast S1x16 (select (k1_pay3 (F := F) (BitVec.ofNat 32 rr.val) v36)
        (loadIdx (cgRow (F := F) f6 rr) ![k1_pay2 v38, kv, k1_pay1 v28 0#32 1#32 t2] hin) (shapeCast S16 ld shapeCasts_S1x16_S16))
      shapeCasts_S16_S1x16 (ix2 (0 : Fin 1) j) = cellG f5 f6 rr g k (lane t2 (t2_lt t2) j) := by
  rw [shapeCast_a_1a_apply]
  have hs : shapeCast S16 ld shapeCasts_S1x16_S16 (ix1 j) = g (ix2 k (lane t2 (t2_lt t2) j)) :=
    (shapeCast_1a_a_apply (a := 16) _ shapeCasts_S1x16_S16 j).trans (hld j)
  have hi : loadIdx (cgRow (F := F) f6 rr) ![k1_pay2 v38, kv, k1_pay1 v28 0#32 1#32 t2] hin (ix1 j)
      = cgRow (F := F) f6 rr (ix3 (clipFin (f5 (ix2 1 (lane t2 (t2_lt t2) j)))) k (lane t2 (t2_lt t2) j)) := by
    refine congrArg (cgRow (F := F) f6 rr) (funext fun a => ?_)
    match a with
    | ⟨0, _⟩ =>
      refine Fin.ext ?_
      change (clip (v38 (ix1 j))).toNat = _
      rw [h38]; rfl
    | ⟨1, _⟩ =>
      refine Fin.ext ?_
      change (kv (ix1 j)).toNat = k.val
      rw [hkv, BitVec.toNat_ofNat]; exact Nat.mod_eq_of_lt (by omega)
    | ⟨2, _⟩ =>
      refine Fin.ext ?_
      change (k1_pay1 v28 0#32 1#32 t2 (ix1 j)).toNat = (lane t2 (t2_lt t2) j).val
      have := (lane t2 (t2_lt t2) j).isLt
      rw [pay1_apply v28 hv28, BitVec.toNat_ofNat]; exact Nat.mod_eq_of_lt (by omega)
  change Scalar.select (IntOp.cmpi .eq (clip (v36 (ix1 j))) (BitVec.ofNat 32 rr.val)) (loadIdx _ _ hin (ix1 j)) (shapeCast S16 ld _ (ix1 j)) = _
  rw [hs, hi, h36]
  rfl

/-- What the group loop's inner loop holds at row `rr` after `ch` chunks. -/
def invChunks (rr : Fin 19) (ch : ℕ) : sProp 𝕄 :=
  iprop(at_ d L (Memref.whole cc1_scratch4) fullShare (posRow (F := F) 0 f5)
    ∗ at_ d L (Memref.whole cc1_scratch5) fullShare (posRow (F := F) 1 f5)
    ∗ at_ d L (Memref.whole cc1_scratch2) fullShare (cgRow (F := F) f6 rr)
    ∗ ∃ g : Vec F S4x512 .i32, ⌜doneG f5 f6 rr.val ch g⌝ ∗ at_ d L (Memref.whole cc1_scratch3) fullShare g)

theorem t2_step (v1 v5 v6 v8 v10 c8 : BitVec 32) (v28 : IVec S16 32) (hv28 : ∀ j : Fin 16, v28 (ix1 j) = BitVec.ofNat 32 j.val) (rr : Fin 19)
    (t2 : Fin k1_t2_loop.trips) :
    invChunks f5 f6 d L rr t2
      ⊢ wp frame (wpE (defs₀ (F := F)) 𝒱₀ (thr d L) none) Set.univ
          (k1_t2_body L (Memref.whole main_v1_scv) (Memref.isWhole_whole _) (Memref.whole main_v4_scv) (Memref.isWhole_whole _)
    (Memref.whole main_v5_scv) (Memref.isWhole_whole _) (Memref.whole main_arg3_scv) (Memref.isWhole_whole _)
    (Memref.whole main_v6_scv) (Memref.isWhole_whole _) (Memref.whole main_v9_scv) (Memref.isWhole_whole _)
    (Memref.whole cc1_scratch0) (Memref.isWhole_whole _) (Memref.whole cc1_scratch1) (Memref.isWhole_whole _)
    (Memref.whole cc1_scratch2) (Memref.isWhole_whole _) (Memref.whole cc1_scratch3) (Memref.isWhole_whole _)
    (Memref.whole cc1_scratch4) (Memref.isWhole_whole _) (Memref.whole cc1_scratch5) (Memref.isWhole_whole _)
    (Memref.whole cc1_scratch6) (Memref.isWhole_whole _) cc1_scoped0 cc1_scoped1 cc1_scoped2 cc1_scoped3 cc1_scoped4 cc1_scoped5 cc1_scoped6
            v1 h1 v5 c8 v6 v8 v10 v28 (BitVec.ofNat 32 rr.val) t2 ())
          fun _ => invChunks f5 f6 d L rr (t2.val + 1) := by
  unfold k1_t2_body
  rw [k1_part1_eq_skeleton]; unfold k1_part1_skel
  unfold invChunks
  iintro ⟨H4, H5, H2, %g, %hg, H3⟩
  unfold at_
  sl_exec
  rw [wp_assume_of _ _ _ _ ?hc1]
  case hc1 => exact fun _ => idx_inb _ _ _ (fun _ => clip_lt _) (fun _ => show (0#32 : BitVec 32).toNat < 4 by decide) (pay1_lt v28 hv28 t2)
  iapply (wp_gather d L (cgRow (F := F) f6 rr)) $$ H2
  iintro H2
  unfold at_
  sl_exec
  rw [wp_assume_of _ _ _ _ ?hc2]
  case hc2 => exact fun _ => idx_inb _ _ _ (fun _ => clip_lt _) (fun _ => show (1#32 : BitVec 32).toNat < 4 by decide) (pay1_lt v28 hv28 t2)
  iapply (wp_gather d L (cgRow (F := F) f6 rr)) $$ H2
  iintro H2
  unfold at_
  sl_exec
  rw [wp_assume_of _ _ _ _ ?hc3]
  case hc3 => exact fun _ => idx_inb _ _ _ (fun _ => clip_lt _) (fun _ => show (2#32 : BitVec 32).toNat < 4 by decide) (pay1_lt v28 hv28 t2)
  iapply (wp_gather d L (cgRow (F := F) f6 rr)) $$ H2
  iintro H2
  unfold at_
  sl_exec
  rw [wp_assume_of _ _ _ _ ?hc4]
  case hc4 => exact fun _ => idx_inb _ _ _ (fun _ => clip_lt _) (fun _ => show (3#32 : BitVec 32).toNat < 4 by decide) (pay1_lt v28 hv28 t2)
  iapply (wp_gather0 d L (cgRow (F := F) f6 rr)) $$ H2
  iintro H2
  unfold at_
  sl_exec
  sl_step
  isplitl [H4]; · iexact H4
  isplitl [H5]; · iexact H5
  isplitl [H2]; · iexact H2
  iexists _
  isplitr
  swap
  · iexact H3
  · ipureintro
    refine groups_next f5 f6 L h1 rr t2 g _ _ _ _ ?_ ?_ ?_ ?_ hg
    · exact fun j => payG_apply f5 f6 rr t2 g 0 v28 hv28 _ _ _
        (fun j => readAt_scr4 (posRow (F := F) 0 f5) _ (k1_off4_inb L t2 h1) (lane t2 (t2_lt t2) j) j (congrArg (· + j.val) (congrFun (k1_off4_eq t2) 0)))
        (fun j => readAt_scr5 (posRow (F := F) 1 f5) _ (k1_off4_inb L t2 h1) (lane t2 (t2_lt t2) j) j (congrArg (· + j.val) (congrFun (k1_off4_eq t2) 0)))
        (fun j => readAt_scr3 g _ (k1_off5_inb L t2 h1) 0 (lane t2 (t2_lt t2) j) j (congrFun (k1_off5_eq t2) 0) (congrArg (· + j.val) (congrFun (k1_off5_eq t2) 1)))
        _ (fun _ => rfl) _ j
    · exact fun j => payG_apply f5 f6 rr t2 g 1 v28 hv28 _ _ _
        (fun j => readAt_scr4 (posRow (F := F) 0 f5) _ (k1_off4_inb L t2 h1) (lane t2 (t2_lt t2) j) j (congrArg (· + j.val) (congrFun (k1_off4_eq t2) 0)))
        (fun j => readAt_scr5 (posRow (F := F) 1 f5) _ (k1_off4_inb L t2 h1) (lane t2 (t2_lt t2) j) j (congrArg (· + j.val) (congrFun (k1_off4_eq t2) 0)))
        (fun j => readAt_scr3 g _ (k1_off6_inb L t2 h1) 1 (lane t2 (t2_lt t2) j) j (congrFun (k1_off6_eq t2) 0) (congrArg (· + j.val) (congrFun (k1_off6_eq t2) 1)))
        _ (fun _ => rfl) _ j
    · exact fun j => payG_apply f5 f6 rr t2 g 2 v28 hv28 _ _ _
        (fun j => readAt_scr4 (posRow (F := F) 0 f5) _ (k1_off4_inb L t2 h1) (lane t2 (t2_lt t2) j) j (congrArg (· + j.val) (congrFun (k1_off4_eq t2) 0)))
        (fun j => readAt_scr5 (posRow (F := F) 1 f5) _ (k1_off4_inb L t2 h1) (lane t2 (t2_lt t2) j) j (congrArg (· + j.val) (congrFun (k1_off4_eq t2) 0)))
        (fun j => readAt_scr3 g _ (k1_off7_inb L t2 h1) 2 (lane t2 (t2_lt t2) j) j (congrFun (k1_off7_eq t2) 0) (congrArg (· + j.val) (congrFun (k1_off7_eq t2) 1)))
        _ (fun _ => rfl) _ j
    · exact fun j => payG_apply f5 f6 rr t2 g 3 v28 hv28 _ _ _
        (fun j => readAt_scr4 (posRow (F := F) 0 f5) _ (k1_off4_inb L t2 h1) (lane t2 (t2_lt t2) j) j (congrArg (· + j.val) (congrFun (k1_off4_eq t2) 0)))
        (fun j => readAt_scr5 (posRow (F := F) 1 f5) _ (k1_off4_inb L t2 h1) (lane t2 (t2_lt t2) j) j (congrArg (· + j.val) (congrFun (k1_off4_eq t2) 0)))
        (fun j => readAt_scr3 g _ (k1_off8_inb L t2 h1) 3 (lane t2 (t2_lt t2) j) j (congrFun (k1_off8_eq t2) 0) (congrArg (· + j.val) (congrFun (k1_off8_eq t2) 1)))
        _ (fun _ => rfl) _ j

end Tile

end Cert.Proof.KernelIdeal

end
-- ==== Proof.IdealStepFetch.lean ====
module

public import proofs.«01_k».proof.Proof.IdealStepGroups

/-!
# The group loop of one tile

One trip of the loop over the board's rows fetches that row's groups and keeps, for every lane whose move lies on the
row, the four groups next to the move.
-/

@[expose] public section

set_option maxRecDepth 16384

noncomputable section

namespace Cert.Proof.KernelIdeal

open Cert.KernelIdeal Cert.KernelIdeal.Gen
open Idealize.ShloMosaic Idealize.ShloMosaic.ValueIdx
open Idealize.ShloMosaic.SparseCore (S V T)
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Tactic

variable {F : FTy → Type} [FloatOps F]

local notation "𝕄" => MT nD τ sig (HIx 1) (Elt F) ℕ UU ℕ

section Tile

variable (f5 : Vec F S2x512 .i32) (f6 : Vec F S19x19x4x512 .i32)
variable (d : Dev nD) (L : grid1.Coords) (h1 : k1_cond1 L = 1#1) (q : PosShare TreeShare)
  (O : CellTallies nD τ sig (HIx 1)) (W : Waits sig (HIx 1))

/-- What the group loop holds after `n` rows. -/
def invRows (n : ℕ) : sProp 𝕄 :=
  iprop(Transfers.MayWaits (thr d L) (none : HIx 1) O
    ∗ at_ d L (Memref.whole cc1_scratch4) fullShare (posRow (F := F) 0 f5)
    ∗ at_ d L (Memref.whole cc1_scratch5) fullShare (posRow (F := F) 1 f5)
    ∗ (∃ b, at_ d L (Memref.whole cc1_scratch2) fullShare b)
    ∗ (∃ g : Vec F S4x512 .i32, ⌜doneG f5 f6 n 0 g⌝ ∗ at_ d L (Memref.whole cc1_scratch3) fullShare g)
    ∗ at_ d L (Memref.whole main_v6_scv) q f6
    ∗ semVal (cell d L cc1_scoped5) 0
    ∗ ∃ W', ⌜∀ p ∈ W', p ∈ W ∨ p.2 = none⌝ ∗ owes (thr d L) O W')

/-- The row of groups trip `t1` fetches, as the program slices it. -/
abbrev cgSlice (t1 : Fin k1_t1_loop.trips) : Memref sig .scVector .hbm S19x4x512 .i32 :=
  ((Memref.whole main_v6_scv).slice (Rect.unit (s := S19x19x4x512) (k1_off3 t1) S1x19x4x512.size (k1_off3_inb L t1 h1)) (fun _ => rfl)).squeeze
    S19x4x512 squeezes_S1x19x4x512_S19x4x512

theorem read_cgSlice (t1 : Fin k1_t1_loop.trips) : (cgSlice L h1 t1).view.read (Elt F) f6 = cgRow (F := F) f6 ⟨t1.val, t1_lt t1⟩ := by
  funext x
  obtain ⟨a, b, c, rfl⟩ : ∃ (a : Fin 19) (b : Fin 4) (c : Fin 512), x = ix3 a b c := ⟨x 0, x 1, x 2, eq_ix3 x⟩
  refine (congrArg (fun i => f6 ((Rect.unit (s := S19x19x4x512) (k1_off3 t1) S1x19x4x512.size (k1_off3_inb L t1 h1)).emb i))
    (reshapeEquiv_ix3_1abc (a := 19) (b := 4) (c := 512) squeezes_S1x19x4x512_S19x4x512.numel_eq a b c)).trans ?_
  refine congrArg f6 (funext fun i => ?_)
  have h := k1_off3_eq t1
  match i with
  | ⟨0, _⟩ => exact Fin.ext (by change k1_off3 t1 0 + 1 * 0 = t1.val; rw [h]; rfl)
  | ⟨1, _⟩ => exact Fin.ext (by change k1_off3 t1 1 + 1 * a.val = a.val; rw [h]; change 0 + 1 * a.val = _; omega)
  | ⟨2, _⟩ => exact Fin.ext (by change k1_off3 t1 2 + 1 * b.val = b.val; rw [h]; change 0 + 1 * b.val = _; omega)
  | ⟨3, _⟩ => exact Fin.ext (by change k1_off3 t1 3 + 1 * c.val = c.val; rw [h]; change 0 + 1 * c.val = _; omega)

theorem t1_step (v1 v5 v6 v8 v10 c8 : BitVec 32) (v28 : IVec S16 32) (hv28 : ∀ j : Fin 16, v28 (ix1 j) = BitVec.ofNat 32 j.val)
    (t1 : Fin k1_t1_loop.trips) :
    invRows f5 f6 d L q O W t1.val
      ⊢ wp frame (wpE (defs₀ (F := F)) 𝒱₀ (thr d L) none) Set.univ
          (k1_t1_body L (Memref.whole main_v1_scv) (Memref.isWhole_whole _) (Memref.whole main_v4_scv) (Memref.isWhole_whole _)
    (Memref.whole main_v5_scv) (Memref.isWhole_whole _) (Memref.whole main_arg3_scv) (Memref.isWhole_whole _)
    (Memref.whole main_v6_scv) (Memref.isWhole_whole _) (Memref.whole main_v9_scv) (Memref.isWhole_whole _)
    (Memref.whole cc1_scratch0) (Memref.isWhole_whole _) (Memref.whole cc1_scratch1) (Memref.isWhole_whole _)
    (Memref.whole cc1_scratch2) (Memref.isWhole_whole _) (Memref.whole cc1_scratch3) (Memref.isWhole_whole _)
    (Memref.whole cc1_scratch4) (Memref.isWhole_whole _) (Memref.whole cc1_scratch5) (Memref.isWhole_whole _)
    (Memref.whole cc1_scratch6) (Memref.isWhole_whole _) cc1_scoped0 cc1_scoped1 cc1_scoped2 cc1_scoped3 cc1_scoped4 cc1_scoped5 cc1_scoped6
            v1 h1 v5 c8 v6 v8 v10 v28 t1 ())
          fun _ => invRows f5 f6 d L q O W (t1.val + 1) := by
  unfold k1_t1_body invRows
  iintro ⟨Hmw, H4, H5, ⟨%b, H2⟩, ⟨%g, %hg, H3⟩, H6, Hc5, %W', %hW', HO⟩
  unfold at_
  sl_exec
  have ha : t1_step.sl.arg15 t1 = BitVec.ofNat 32 (⟨t1.val, t1_lt t1⟩ : Fin 19).val := by
    change Scf.iv 0#32 1#32 t1.val = _
    rw [Scf.iv, BitVec.mul_one, BitVec.zero_add]
  sl_for (fun m _ => invChunks f5 f6 d L ⟨t1.val, t1_lt t1⟩ m) $$ [H4 H5 H2 H3]
  case region =>
    intro k _
    have hs := t2_step f5 f6 d L h1 v1 v5 v6 v8 v10 c8 v28 hv28 ⟨t1.val, t1_lt t1⟩ k
    rw [← ha] at hs
    exact hs
  · have hl : (View.write (Elt F) (Memref.whole cc1_scratch2).view b (t1_step.sl.dma0 f6 L h1 t1) Finset.univ : Vec F S19x4x512 .i32)
        = cgRow (F := F) f6 ⟨t1.val, t1_lt t1⟩ := (View.write_whole_univ _ _ _).trans (read_cgSlice f6 L h1 t1)
    ihave H2 := (Entails.of_eq (congrArg (fun f => at_ d L (Memref.whole cc1_scratch2) fullShare f) hl)) $$ H2
    unfold invChunks
    isplitl [H4]; · iexact H4
    isplitl [H5]; · iexact H5
    isplitl [H2]; · iexact H2
    iexists g
    isplitr
    · ipureintro
      intro k l hkl
      change _ < t1.val ∨ (_ = t1.val ∧ l.val < 16 * 0) at hkl
      exact hg k l (Or.inl (by omega))
    · iexact H3
  unfold invChunks
  iintro %_ ⟨H4, H5, H2, %g', %hg', H3⟩
  unfold at_
  sl_exec
  sl_step
  isplitl [Hmw]; · iexact Hmw
  isplitl [H4]; · iexact H4
  isplitl [H5]; · iexact H5
  isplitl [H2]; · iexists _; iexact H2
  isplitl [H3]
  · iexists g'
    isplitr
    · ipureintro
      intro k l hkl
      have hl := l.isLt
      refine hg' k l ?_
      rw [show Scf.trips k1_t2_loop.lb k1_t2_loop.ub k1_t2_loop.st = 32 by decide]
      change _ < t1.val ∨ (_ = t1.val ∧ _)
      omega
    · iexact H3
  isplitl [H6]; · iexact H6
  isplitl [Hc5]; · iexact Hc5
  iexists _
  isplitr
  swap
  · iexact HO
  · ipureintro
    intro p hp
    rcases Finset.mem_insert.mp hp with hp | hp
    · exact .inr (hp ▸ rfl)
    · exact hW' p hp

end Tile

end Cert.Proof.KernelIdeal

end
-- ==== Proof.IdealTile.lean ====
module

public import proofs.«01_k».proof.Proof.IdealStepFetch

/-!
# One tile's task

A tile whose number is a board row fetches its inputs, gathers the groups next to each move, rewrites the row, and
writes it to the result.
-/

@[expose] public section

set_option maxRecDepth 16384

noncomputable section

namespace Cert.Proof.KernelIdeal

open Cert.KernelIdeal Cert.KernelIdeal.Gen
open Idealize.ShloMosaic Idealize.ShloMosaic.ValueIdx
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F]

local notation "𝕄" => MT nD τ sig (HIx 1) (Elt F) ℕ UU ℕ

/-- The kernel at tile `L`, on the printed arguments. -/
abbrev body (L : grid1.Coords) : Prog (TpuEff nD τ sig (Elt F) Λ₀ (.scVector (cV L) (jV L))) PUnit :=
  cc1_go_board_sc L (Memref.whole main_v1_scv) (Memref.isWhole_whole _) (Memref.whole main_v4_scv) (Memref.isWhole_whole _)
    (Memref.whole main_v5_scv) (Memref.isWhole_whole _) (Memref.whole main_arg3_scv) (Memref.isWhole_whole _)
    (Memref.whole main_v6_scv) (Memref.isWhole_whole _) (Memref.whole main_v9_scv) (Memref.isWhole_whole _)
    (Memref.whole cc1_scratch0) (Memref.isWhole_whole _) (Memref.whole cc1_scratch1) (Memref.isWhole_whole _)
    (Memref.whole cc1_scratch2) (Memref.isWhole_whole _) (Memref.whole cc1_scratch3) (Memref.isWhole_whole _)
    (Memref.whole cc1_scratch4) (Memref.isWhole_whole _) (Memref.whole cc1_scratch5) (Memref.isWhole_whole _)
    (Memref.whole cc1_scratch6) (Memref.isWhole_whole _) cc1_scoped0 cc1_scoped1 cc1_scoped2 cc1_scoped3 cc1_scoped4 cc1_scoped5 cc1_scoped6

section Tile

variable (d : Dev nD) (L : grid1.Coords)

/-- The row of the result the tile writes, as the program slices it. -/
abbrev outRow (L : grid1.Coords) (h1 : k1_cond1 L = 1#1) : Memref sig .scVector .hbm S19x512 .f32 :=
  ((Memref.whole main_v9_scv).slice (Rect.unit (s := S19x19x512) (k1_off1 L) S1x19x512.size (k1_off1_inb L h1)) (fun _ => rfl)).squeeze
    S19x512 squeezes_S1x19x512_S19x512

theorem reshape_row {a : ℕ} (h : (⟨1, ![a]⟩ : Shape).numel = (⟨2, ![1, a]⟩ : Shape).numel) (x : Fin a) :
    Shape.reshapeEquiv h (ix1 x) = ix2 (⟨0, Nat.one_pos⟩ : Fin 1) x :=
  Shape.reshapeEquiv_eq_of_rowMajor h (by
    rw [Shape.rowMajor_val_two, Shape.rowMajor_val_one]
    show 0 * a + x.val = x.val
    omega)

/-- The fetched positions. -/
theorem read_pos0 (f5 : Vec F S2x512 .i32) :
    (((Memref.whole main_v5_scv).slice (Rect.unit (s := S2x512) ![0, 0] S1x512.size inb_S2x512_S1x512_0_0) (fun _ => rfl)).squeeze S512
      squeezes_S1x512_S512).view.read (Elt F) f5 = posRow (F := F) 0 f5 := by
  funext x
  obtain ⟨a, rfl⟩ : ∃ a : Fin 512, x = ix1 a := ⟨x 0, eq_ix1 x⟩
  refine (congrArg (fun i => f5 ((Rect.unit (s := S2x512) ![0, 0] S1x512.size inb_S2x512_S1x512_0_0).emb i))
    (reshape_row (a := 512) squeezes_S1x512_S512.numel_eq a)).trans ?_
  refine congrArg f5 (funext fun i => ?_)
  match i with
  | ⟨0, _⟩ => exact Fin.ext rfl
  | ⟨1, _⟩ => exact Fin.ext (by change 0 + 1 * a.val = a.val; omega)

theorem read_pos1 (f5 : Vec F S2x512 .i32) :
    (((Memref.whole main_v5_scv).slice (Rect.unit (s := S2x512) ![1, 0] S1x512.size inb_S2x512_S1x512_1_0) (fun _ => rfl)).squeeze S512
      squeezes_S1x512_S512).view.read (Elt F) f5 = posRow (F := F) 1 f5 := by
  funext x
  obtain ⟨a, rfl⟩ : ∃ a : Fin 512, x = ix1 a := ⟨x 0, eq_ix1 x⟩
  refine (congrArg (fun i => f5 ((Rect.unit (s := S2x512) ![1, 0] S1x512.size inb_S2x512_S1x512_1_0).emb i))
    (reshape_row (a := 512) squeezes_S1x512_S512.numel_eq a)).trans ?_
  refine congrArg f5 (funext fun i => ?_)
  match i with
  | ⟨0, _⟩ => exact Fin.ext rfl
  | ⟨1, _⟩ => exact Fin.ext (by change 0 + 1 * a.val = a.val; omega)

/-- Cell `(c, l)` of the tile's row, in the array. -/
theorem emb_row (h1 : k1_cond1 L = 1#1) (c : Fin 19) (l : Fin 512) :
    (Rect.unit (s := S19x19x512) (k1_off1 L) S1x19x512.size (k1_off1_inb L h1)).emb
      (Shape.reshapeEquiv squeezes_S1x19x512_S19x512.numel_eq (ix2 c l)) = ix3 (rowFin L h1) c l := by
  refine (congrArg (fun i => (Rect.unit (s := S19x19x512) (k1_off1 L) S1x19x512.size (k1_off1_inb L h1)).emb i)
    (reshapeEquiv_ix2_1ab (a := 19) (b := 512) squeezes_S1x19x512_S19x512.numel_eq c l)).trans ?_
  funext i
  have h := k1_off1_eq L
  match i with
  | ⟨0, _⟩ => exact Fin.ext (by change k1_off1 L 0 + 1 * 0 = 2 * (L 1).val + (L 0).val; rw [h]; rfl)
  | ⟨1, _⟩ => exact Fin.ext (by change k1_off1 L 1 + 1 * c.val = c.val; rw [h]; change 0 + 1 * c.val = _; omega)
  | ⟨2, _⟩ => exact Fin.ext (by change k1_off1 L 2 + 1 * l.val = l.val; rw [h]; change 0 + 1 * l.val = _; omega)

/-- The fetched board row. -/
theorem read_board (h1 : k1_cond1 L = 1#1) (f1 : Vec F S19x19x512 .f32) (f4 : Vec F S368x512 .i32) (f5 : Vec F S2x512 .i32)
    (f3 : Vec F S512 .i32) (f6 : Vec F S19x19x4x512 .i32) :
    (((Memref.whole main_v1_scv).slice (Rect.unit (s := S19x19x512) (k1_off1 L) S1x19x512.size (k1_off1_inb L h1)) (fun _ => rfl)).squeeze
      S19x512 squeezes_S1x19x512_S19x512).view.read (Elt F) f1 = rowMid f1 f4 f5 f3 f6 (rowFin L h1) 0 0 := by
  funext x
  obtain ⟨c, l, rfl⟩ : ∃ (c : Fin 19) (l : Fin 512), x = ix2 c l := ⟨x 0, x 1, eq_ix2 x⟩
  refine (congrArg f1 (emb_row L h1 c l)).trans ?_
  unfold rowMid
  rw [if_neg (show ¬ (l.val < 16 * 0 ∨ (l.val < 16 * (0 + 1) ∧ c.val < 0)) by omega)]

/-- The fetched roots. -/
theorem read_roots (h1 : k1_cond1 L = 1#1) (f4 : Vec F S368x512 .i32) :
    ((Memref.whole main_v4_scv).slice (Rect.unit (s := S368x512) (k1_off2 L) S40x512.size (k1_off2_inb L h1)) (fun _ => rfl)).view.read (Elt F) f4
      = rootRows (F := F) f4 L h1 := by
  funext x
  obtain ⟨c, l, rfl⟩ : ∃ (c : Fin 40) (l : Fin 512), x = ix2 c l := ⟨x 0, x 1, eq_ix2 x⟩
  refine congrArg f4 (funext fun i => ?_)
  match i with
  | ⟨0, _⟩ => exact Fin.ext (by change k1_off2 L 0 + 1 * c.val = k1_off2 L 0 + c.val; omega)
  | ⟨1, _⟩ => exact Fin.ext (by change k1_off2 L 1 + 1 * l.val = l.val; rw [off2_col]; omega)

/-- The row written out holds the board after the move. -/
theorem write_out (h1 : k1_cond1 L = 1#1) (f9 f1 : Vec F S19x19x512 .f32) (f4 : Vec F S368x512 .i32) (f5 : Vec F S2x512 .i32)
    (f3 : Vec F S512 .i32) (f6 : Vec F S19x19x4x512 .i32) :
    ((outRow L h1).view.loc (thr d L) ↦[(outRow L h1).view.set]{fullShare}
        View.write (Elt F) (outRow L h1).view f9 (rowMid f1 f4 f5 f3 f6 (rowFin L h1) 32 0) Finset.univ : sProp 𝕄)
      = (outRow L h1).view.loc (thr d L) ↦[(outRow L h1).view.set]{fullShare} boardArr f1 f4 f5 f3 f6 :=
  pointsTo_congr fun i hi => by
    obtain ⟨x, -, rfl⟩ := Finset.mem_map.mp hi
    rw [View.write_emb_of_mem _ _ (Finset.mem_univ _)]
    obtain ⟨c, l, rfl⟩ : ∃ (c : Fin 19) (l : Fin 512), x = ix2 c l := ⟨x 0, x 1, eq_ix2 x⟩
    refine Eq.trans ?_ (congrArg (boardArr f1 f4 f5 f3 f6) (emb_row L h1 c l).symm)
    change rowMid f1 f4 f5 f3 f6 (rowFin L h1) 32 0 (ix2 c l) = _
    unfold rowMid
    have hl := l.isLt
    rw [if_pos (show l.val < 16 * 32 ∨ (l.val < 16 * (32 + 1) ∧ c.val < 0) by omega)]
    rfl

/-- The tile's number, as the program computes it. -/
theorem tile_word (h1 : k1_cond1 L = 1#1) :
    Scalar.addi (Scalar.muli (BitVec.ofNat 32 (L 1).val) 2#32) (BitVec.ofNat 32 (L 0).val) = BitVec.ofNat 32 (rowFin L h1).val := by
  change BitVec.ofNat 32 (L 1).val * BitVec.ofNat 32 2 + BitVec.ofNat 32 (L 0).val = _
  rw [← BitVec.ofNat_mul, ← BitVec.ofNat_add, Nat.mul_comm]
  rfl

set_option maxHeartbeats 1000000 in
theorem active_body (hF : (K (F := F)).Facts) (h1 : k1_cond1 L = 1#1) (q : PosShare TreeShare)
    (O : CellTallies nD τ sig (HIx 1)) (W : Waits sig (HIx 1)) (hO : ∀ g, O g none = 0)
    (f1 : Buf (Elt F) ((SparseCore.T d).loc main_v1)) (f4 : Buf (Elt F) ((SparseCore.T d).loc main_v4))
    (f5 : Buf (Elt F) ((SparseCore.T d).loc main_v5)) (f3 : Buf (Elt F) ((SparseCore.T d).loc main_arg3))
    (f6 : Buf (Elt F) ((SparseCore.T d).loc main_v6)) (f9 : Buf (Elt F) ((SparseCore.T d).loc main_v9)) :
    iprop(levAts (K (F := F)).L (K (F := F)).lev
        ∗ at_ d L (Memref.whole main_v1_scv) q f1
        ∗ at_ d L (Memref.whole main_v4_scv) q f4
        ∗ at_ d L (Memref.whole main_v5_scv) q f5
        ∗ at_ d L (Memref.whole main_arg3_scv) q f3
        ∗ at_ d L (Memref.whole main_v6_scv) q f6
        ∗ ((outRow L h1).view.loc (thr d L) ↦[(outRow L h1).view.set]{fullShare} f9)
        ∗ scopedBufs (thr d L) ∗ scopedSems0 (thr d L) ∗ owes (thr d L) O W)
      ⊢ wp frame (wpE (defs₀ (F := F)) 𝒱₀ (thr d L) none) Set.univ (body L)
          fun _ => iprop((at_ d L (Memref.whole main_v1_scv) q f1
        ∗ at_ d L (Memref.whole main_v4_scv) q f4
        ∗ at_ d L (Memref.whole main_v5_scv) q f5
        ∗ at_ d L (Memref.whole main_arg3_scv) q f3
        ∗ at_ d L (Memref.whole main_v6_scv) q f6
        ∗ ((outRow L h1).view.loc (thr d L) ↦[(outRow L h1).view.set]{fullShare} boardArr f1 f4 f5 f3 f6))
        ∗ scopedBufs (thr d L) ∗ scopedSems0 (thr d L)
        ∗ ∃ W', ⌜∀ p ∈ W', p ∈ W ∨ p.2 = none ∨ p.2 = some (0 : Fin 1)⌝ ∗ owes (thr d L) O W') := by
  unfold body
  rw [cc1_go_board_sc_eq_skeleton]; unfold cc1_go_board_sc_skel
  rw [k1_part2_eq_skeleton, k1_part3_eq_skeleton]; unfold k1_part2_skel k1_part3_skel
  rw [(K (F := F)).scopedBufs_V hF d (cV L) (jV L), SparseCore.Cfg.scopedSems0_V (Val := Elt F) d (cV L) (jV L), ownSems0_V, ownBufs_V]
  iintro ⟨#Hlv, H1, H4, H5, H3, H6, H9, ⟨⟨%b0, Hs0⟩, ⟨%b1, Hs1⟩, ⟨%b2, Hs2⟩, ⟨%b3, Hs3⟩, ⟨%b4, Hs4⟩, ⟨%b5, Hs5⟩, ⟨%b6, Hs6⟩, Hbufs⟩,
    ⟨Hc0, Hc1, Hc2, Hc3, Hc4, Hc5, Hc6, Hsems⟩, HO⟩
  unfold at_
  have k1_h1 := h1
  ihave Hmw := ((K (F := F)).mayWaits_none (thr := thr d L) hO) $$ Hlv
  sl_exec
  have e4 : (View.write (Elt F) (Memref.whole cc1_scratch4).view b4 (active_body.sl.dma0 d f5) Finset.univ : Vec F S512 .i32) = posRow (F := F) 0 f5 :=
    (View.write_whole_univ _ _ _).trans (read_pos0 f5)
  ihave Hs4 := (Entails.of_eq (congrArg (fun f => at_ d L (Memref.whole cc1_scratch4) fullShare f) e4)) $$ Hs4
  have e5 : (View.write (Elt F) (Memref.whole cc1_scratch5).view b5 (active_body.sl.dma0_1 d f5) Finset.univ : Vec F S512 .i32) = posRow (F := F) 1 f5 :=
    (View.write_whole_univ _ _ _).trans (read_pos1 f5)
  ihave Hs5 := (Entails.of_eq (congrArg (fun f => at_ d L (Memref.whole cc1_scratch5) fullShare f) e5)) $$ Hs5
  have e6 : (View.write (Elt F) (Memref.whole cc1_scratch6).view b6 (active_body.sl.dma0_2 d f3) Finset.univ : Vec F S512 .i32) = f3 :=
    (View.write_whole_univ _ _ _).trans rfl
  ihave Hs6 := (Entails.of_eq (congrArg (fun f => at_ d L (Memref.whole cc1_scratch6) fullShare f) e6)) $$ Hs6
  have e0 : (View.write (Elt F) (Memref.whole cc1_scratch0).view b0 (active_body.sl.dma0_3 d L h1 f1) Finset.univ : Vec F S19x512 .f32)
      = rowMid f1 f4 f5 f3 f6 (rowFin L h1) 0 0 :=
    (View.write_whole_univ _ _ _).trans (read_board L h1 f1 f4 f5 f3 f6)
  ihave Hs0 := (Entails.of_eq (congrArg (fun f => at_ d L (Memref.whole cc1_scratch0) fullShare f) e0)) $$ Hs0
  have e1 : (View.write (Elt F) (Memref.whole cc1_scratch1).view b1 (active_body.sl.dma0_4 d L h1 f4) Finset.univ : Vec F S40x512 .i32)
      = rootRows (F := F) f4 L h1 :=
    (View.write_whole_univ _ _ _).trans (read_roots L h1 f4)
  ihave Hs1 := (Entails.of_eq (congrArg (fun f => at_ d L (Memref.whole cc1_scratch1) fullShare f) e1)) $$ Hs1
  rw [bind_assoc]
  sl_for (fun m _ => invRows f5 f6 d L q O W m) $$ [Hmw Hs4 Hs5 Hs2 Hs3 H6 Hc5 HO]
  case region =>
    intro k _
    exact t1_step f5 f6 d L h1 q O W _ _ _ _ _ _ _ (fun j => iota_single_apply .scVector S16 32 0 iota_S16_d0_w32_scVector (ix1 j)) k
  · unfold invRows
    isplitl [Hmw]; · iexact Hmw
    isplitl [Hs4]; · iexact Hs4
    isplitl [Hs5]; · iexact Hs5
    isplitl [Hs2]; · iexists _; iexact Hs2
    isplitl [Hs3]
    · iexists _
      isplitr
      swap
      · iexact Hs3
      · ipureintro
        intro k l hkl
        exfalso
        have := l.isLt
        change _ < 0 ∨ (_ = 0 ∧ l.val < 16 * 0) at hkl
        omega
    isplitl [H6]; · iexact H6
    isplitl [Hc5]; · iexact Hc5
    iexists _
    isplitr
    swap
    · iexact HO
    · ipureintro
      intro p hp
      simp only [Finset.mem_insert] at hp
      rcases hp with rfl | rfl | rfl | rfl | rfl | hp
      · exact .inr rfl
      · exact .inr rfl
      · exact .inr rfl
      · exact .inr rfl
      · exact .inr rfl
      · exact .inl hp
  unfold invRows
  iintro %_ ⟨Hmw, Hs4, Hs5, ⟨%b2', Hs2⟩, ⟨%g, %hg, Hs3⟩, H6, Hc5, %W', %hW', HO⟩
  have hg' : g = grpArr (F := F) f5 f6 := by
    funext x
    obtain ⟨k, l, rfl⟩ : ∃ (k : Fin 4) (l : Fin 512), x = ix2 k l := ⟨x 0, x 1, eq_ix2 x⟩
    rw [show Scf.trips k1_t1_loop.lb k1_t1_loop.ub k1_t1_loop.st = 19 by decide] at hg
    exact hg k l (Or.inl (clip_lt _))
  subst hg'
  unfold active_body.sl.prog.cont_1
  rw [bind_assoc]
  sl_for (fun m _ => invBoard f1 f4 f5 f3 f6 d L h1 m) $$ [Hs4 Hs5 Hs6 Hs3 Hs1 Hs0]
  case region =>
    intro k _
    exact t3_step f1 f4 f5 f3 f6 d L h1 _ _ _ _ _ _ (tile_word L h1) k
  · unfold invBoard invCells
    isplitl [Hs4]; · iexact Hs4
    isplitl [Hs5]; · iexact Hs5
    isplitl [Hs6]; · iexact Hs6
    isplitl [Hs3]; · iexact Hs3
    isplitl [Hs1]; · iexact Hs1
    iexact Hs0
  rw [show Scf.trips k1_t3_loop.lb k1_t3_loop.ub k1_t3_loop.st = 32 by decide]
  unfold invBoard invCells
  iintro %_ ⟨Hs4, Hs5, Hs6, Hs3, Hs1, Hs0⟩
  unfold at_
  sl_exec
  have hw : ((outRow L h1).view.writes (Elt F) f9 [⟨Rect.whole S19x512, active_body.sl.dma0_5 d L h1 f1 f4 f5 f3 f6⟩])
      = View.write (Elt F) (outRow L h1).view f9 (rowMid f1 f4 f5 f3 f6 (rowFin L h1) 32 0) Finset.univ :=
    (View.write_univ_eq_writes_whole (outRow L h1).view f9 [] _).symm
  ihave H9 := (Entails.of_eq ((congrArg (fun f => ((outRow L h1).view.loc (thr d L) ↦[(outRow L h1).view.set]{fullShare} f : sProp 𝕄)) hw).trans
    (write_out d L h1 f9 f1 f4 f5 f3 f6))) $$ H9
  sl_step
  isplitl [H1 H4 H5 H3 H6 H9]
  · isplitl [H1]; · iexact H1
    isplitl [H4]; · iexact H4
    isplitl [H5]; · iexact H5
    isplitl [H3]; · iexact H3
    isplitl [H6]; · iexact H6
    iexact H9
  isplitl [Hs0 Hs1 Hs2 Hs3 Hs4 Hs5 Hs6 Hbufs]
  · isplitl [Hs0]; · iexists _; iexact Hs0
    isplitl [Hs1]; · iexists _; iexact Hs1
    isplitl [Hs2]; · iexists _; iexact Hs2
    isplitl [Hs3]; · iexists _; iexact Hs3
    isplitl [Hs4]; · iexists _; iexact Hs4
    isplitl [Hs5]; · iexists _; iexact Hs5
    isplitl [Hs6]; · iexists _; iexact Hs6
    iexact Hbufs
  isplitl [Hc0 Hc1 Hc2 Hc3 Hc4 Hc5 Hc6 Hsems]
  · isplitl [Hc0]; · iexact Hc0
    isplitl [Hc1]; · iexact Hc1
    isplitl [Hc2]; · iexact Hc2
    isplitl [Hc3]; · iexact Hc3
    isplitl [Hc4]; · iexact Hc4
    isplitl [Hc5]; · iexact Hc5
    isplitl [Hc6]; · iexact Hc6
    iexact Hsems
  iexists _; isplitr
  swap; · iexact HO
  ipureintro; intro p _
  rcases p.2 with _ | z
  · exact .inr (.inl rfl)
  · exact .inr (.inr (congrArg some (Subsingleton.elim z 0)))

end Tile

end Cert.Proof.KernelIdeal

end
-- ==== Proof.IdealTask.lean ====
/-
  The SparseCore call's obligations: what the call hands each SparseCore and each tile and takes back, one tile's
  task at any tile number, and the split of a SparseCore's operands among its tiles.
-/
module

public import proofs.«01_k».proof.Proof.IdealTile
public import Idealize.ShloMosaic.Lib.ShareLeaves

@[expose] public section

set_option maxRecDepth 16384

noncomputable section

namespace Cert.Proof.KernelIdeal

open Cert.KernelIdeal Cert.KernelIdeal.Gen
open Idealize.ShloMosaic Idealize.ShloMosaic.ValueIdx
open Idealize.ShloMosaic.ShareLeaves (leaf pointsTo_leaves)
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F]

local notation "𝕄" => MT nD τ sig (HIx 1) (Elt F) ℕ UU ℕ

/-! ## The arrays of the call -/

/-- The contents of the call's five operands and of its result array before it. -/
structure Args (F : FTy → Type) where
  /-- the board, batch last -/
  f1 : Vec F S19x19x512 .f32
  /-- the roots, batch last, padded -/
  f4 : Vec F S368x512 .i32
  /-- the positions -/
  f5 : Vec F S2x512 .i32
  /-- the players -/
  f3 : Vec F S512 .i32
  /-- the capture groups, batch last -/
  f6 : Vec F S19x19x4x512 .i32
  /-- the result array's contents at launch -/
  f9 : Vec F S19x19x512 .f32

abbrev loc1 (d : Dev nD) : Loc nD τ sig := (SparseCore.T d).loc main_v1
abbrev loc4 (d : Dev nD) : Loc nD τ sig := (SparseCore.T d).loc main_v4
abbrev loc5 (d : Dev nD) : Loc nD τ sig := (SparseCore.T d).loc main_v5
abbrev loc3 (d : Dev nD) : Loc nD τ sig := (SparseCore.T d).loc main_arg3
abbrev loc6 (d : Dev nD) : Loc nD τ sig := (SparseCore.T d).loc main_v6
abbrev loc9 (d : Dev nD) : Loc nD τ sig := (SparseCore.T d).loc main_v9

/-- The result array after the call. -/
def Args.out (A : Args F) : Vec F S19x19x512 .f32 := boardArr A.f1 A.f4 A.f5 A.f3 A.f6

/-- The five operands, whole, at a share. -/
abbrev inputs (A : Args F) (d : Dev nD) (q : PosShare TreeShare) : sProp 𝕄 :=
  iprop((loc1 d ↦{q} A.f1) ∗ (loc4 d ↦{q} A.f4) ∗ (loc5 d ↦{q} A.f5) ∗ (loc3 d ↦{q} A.f3) ∗ (loc6 d ↦{q} A.f6))

/-- Row `w` of the result array: nothing when `w` is no row. -/
def rowSet (w : ℕ) : Finset S19x19x512.Idx := Finset.univ.filter fun x => (x 0).val = w
/-- The rows SparseCore `c`'s tiles write. -/
def coreSet (c : Fin 2) : Finset S19x19x512.Idx := Finset.univ.filter fun x => (x 0).val % 2 = c.val

/-- Tile `i` of SparseCore `c` takes row `2 i + c`. -/
abbrev rowNum (c : Fin 2) (i : Fin 16) : ℕ := 2 * i.val + c.val

theorem coreSet_eq (c : Fin 2) : (Finset.univ : Finset (Fin 16)).biUnion (fun i => rowSet (rowNum c i)) = coreSet c := by
  ext x
  simp only [Finset.mem_biUnion, Finset.mem_univ, true_and, rowSet, coreSet, Finset.mem_filter]
  have hx : (x 0).val < 19 := (x 0).isLt
  have hc := c.isLt
  constructor
  · rintro ⟨i, hi⟩; change (x 0).val = 2 * i.val + c.val at hi; omega
  · intro h; exact ⟨⟨(x 0).val / 2, by omega⟩, by change (x 0).val = 2 * ((x 0).val / 2) + c.val; omega⟩

theorem rowSet_disjoint (c : Fin 2) : ∀ i ∈ (Finset.univ : Finset (Fin 16)), ∀ j ∈ (Finset.univ : Finset (Fin 16)), i ≠ j →
    Disjoint (rowSet (rowNum c i)) (rowSet (rowNum c j)) := by
  intro i _ j _ h
  rw [Finset.disjoint_left]
  intro x hi hj
  simp only [rowSet, Finset.mem_filter, Finset.mem_univ, true_and] at hi hj
  have e : 2 * i.val + c.val = 2 * j.val + c.val := hi.symm.trans hj
  exact h (Fin.ext (by omega))

theorem coreSet_cover : (Finset.univ : Finset (Fin 2)).biUnion coreSet = Finset.univ := by
  ext x
  simp only [Finset.mem_biUnion, Finset.mem_univ, true_and, coreSet, Finset.mem_filter, iff_true]
  exact ⟨⟨(x 0).val % 2, Nat.mod_lt _ (by decide)⟩, rfl⟩

theorem coreSet_disjoint : ∀ i ∈ (Finset.univ : Finset (Fin 2)), ∀ j ∈ (Finset.univ : Finset (Fin 2)), i ≠ j →
    Disjoint (coreSet i) (coreSet j) := by
  intro i _ j _ h
  rw [Finset.disjoint_left]
  intro x hi hj
  simp only [coreSet, Finset.mem_filter, Finset.mem_univ, true_and] at hi hj
  exact h (Fin.ext (by omega))

abbrev coreShare (c : Fin 2) : PosShare TreeShare := leaf 1 fullShare c
abbrev tileShare (c : Fin 2) (i : Fin 16) : PosShare TreeShare := leaf 4 (coreShare c) i

/-- The operands at a share are the operands at its leaves at once. -/
theorem inputs_leaves (A : Args F) (d : Dev nD) (n : ℕ) (q : PosShare TreeShare) :
    inputs A d q = bigSep Finset.univ fun i : Fin (2 ^ n) => inputs A d (leaf n q i) := by
  unfold inputs
  rw [bigSep_sep', bigSep_sep', bigSep_sep', bigSep_sep', ← pointsTo_leaves, ← pointsTo_leaves, ← pointsTo_leaves, ← pointsTo_leaves,
    ← pointsTo_leaves]

/-- A SparseCore's rows of the result array are its tiles' rows. -/
theorem core_rows (d : Dev nD) (c : Fin 2) (f : Buf (Elt F) (loc9 d)) :
    (loc9 d ↦[coreSet c]{fullShare} f : sProp 𝕄) = bigSep Finset.univ fun i : Fin 16 => loc9 d ↦[rowSet (rowNum c i)]{fullShare} f := by
  rw [← pointsTo_biUnion Finset.univ (ℓ := loc9 d) (fun i : Fin 16 => rowSet (rowNum c i)) (rowSet_disjoint c), coreSet_eq]

/-- The result array is the two SparseCores' rows. -/
theorem cores_rows (d : Dev nD) (f : Buf (Elt F) (loc9 d)) :
    (loc9 d ↦{fullShare} f : sProp 𝕄) = bigSep Finset.univ fun c : Fin 2 => loc9 d ↦[coreSet c]{fullShare} f := by
  rw [← pointsTo_biUnion Finset.univ (ℓ := loc9 d) coreSet coreSet_disjoint, coreSet_cover]

/-- What a SparseCore takes (and, at the result, gives back). -/
abbrev forCore (A : Args F) (d : Dev nD) (c : Fin 2) (f : Vec F S19x19x512 .f32) : sProp 𝕄 :=
  iprop(inputs A d (coreShare c) ∗ loc9 d ↦[coreSet c]{fullShare} f)
/-- What a tile takes (and, at the result, gives back). -/
abbrev forTile (A : Args F) (d : Dev nD) (c : Fin 2) (i : Fin 16) (f : Vec F S19x19x512 .f32) : sProp 𝕄 :=
  iprop(inputs A d (tileShare c i) ∗ loc9 d ↦[rowSet (rowNum c i)]{fullShare} f)

theorem forCore_tiles (A : Args F) (d : Dev nD) (c : Fin 2) (f : Vec F S19x19x512 .f32) :
    forCore A d c f = bigSep Finset.univ fun i : Fin 16 => forTile A d c i f := by
  unfold forCore forTile
  rw [bigSep_sep', core_rows, inputs_leaves A d 4 (coreShare c)]
  rfl

theorem whole_cores (A : Args F) (d : Dev nD) (f : Vec F S19x19x512 .f32) :
    iprop(inputs A d fullShare ∗ loc9 d ↦{fullShare} f) = bigSep Finset.univ fun c : Fin 2 => forCore A d c f := by
  unfold forCore
  rw [bigSep_sep', cores_rows, inputs_leaves A d 1 fullShare]
  rfl

variable (A : Dev nD → Args F)

/-- The call's payloads. -/
def P : (K (F := F)).Pay (nD := nD) (Val := Elt F) (Name := ℕ) (U := UU) where
  st := fun q d c => match q with | 0 => forCore (A d) d (Fin.cast nCore_zero c) (A d).f9
  dn := fun q d c => match q with | 0 => forCore (A d) d (Fin.cast nCore_zero c) (A d).out
  go := fun q d c i => match q with | 0 => forTile (A d) d (Fin.cast nCore_zero c) (Fin.cast nSub_zero i) (A d).f9
  td := fun q d c i => match q with | 0 => forTile (A d) d (Fin.cast nCore_zero c) (Fin.cast nSub_zero i) (A d).out
  x := fun _ _ => iprop(emp)

instance P_storable : (P A).IsStorable where
  st q d c := match q with
    | 0 => (inferInstance : BI.Storable (upEmb : UEmb _ 𝕄) (forCore (A d) d (Fin.cast nCore_zero c) (A d).f9))
  dn q d c := match q with
    | 0 => (inferInstance : BI.Storable (upEmb : UEmb _ 𝕄) (forCore (A d) d (Fin.cast nCore_zero c) (A d).out))
  go q d c i := match q with
    | 0 => (inferInstance : BI.Storable (upEmb : UEmb _ 𝕄) (forTile (A d) d (Fin.cast nCore_zero c) (Fin.cast nSub_zero i) (A d).f9))
  td q d c i := match q with
    | 0 => (inferInstance : BI.Storable (upEmb : UEmb _ 𝕄) (forTile (A d) d (Fin.cast nCore_zero c) (Fin.cast nSub_zero i) (A d).out))

/-! ## One tile's task -/

def coordsV (c : Fin (grid1.bound 0)) (s : Fin (grid1.bound 1)) : grid1.Coords :=
  fun | 0 => c | 1 => s | ⟨_ + 2, h⟩ => absurd h (Nat.not_lt.2 (Nat.le_add_left _ _))

/-- The elements a tile's slice of the result covers are its row's. -/
theorem outRow_set (L : grid1.Coords) (h1 : k1_cond1 L = 1#1) : (outRow L h1).view.set = rowSet (rowFin L h1).val := by
  ext x
  constructor
  · intro hx
    obtain ⟨y, -, rfl⟩ := Finset.mem_map.mp hx
    obtain ⟨c, l, rfl⟩ : ∃ (c : Fin 19) (l : Fin 512), y = ix2 c l := ⟨y 0, y 1, eq_ix2 y⟩
    refine Finset.mem_filter.mpr ⟨Finset.mem_univ _, ?_⟩
    exact congrArg (fun z : S19x19x512.Idx => (z 0).val) (emb_row L h1 c l)
  · intro hx
    have hx' : (x 0).val = (rowFin L h1).val := (Finset.mem_filter.mp hx).2
    refine Finset.mem_map.mpr ⟨ix2 (x 1 : Fin 19) (x 2 : Fin 512), Finset.mem_univ _, ?_⟩
    refine (emb_row L h1 (x 1) (x 2)).trans ?_
    refine Eq.trans ?_ (eq_ix3 x).symm
    exact congrArg (fun r => ix3 r (x 1 : Fin 19) (x 2 : Fin 512)) (Fin.ext hx'.symm)

/-- No element is in a row past the last. -/
theorem rowSet_idle (w : ℕ) (h : 19 ≤ w) : rowSet w = ∅ := by
  refine Finset.filter_eq_empty_iff.mpr fun x _ hx => ?_
  have : (x 0).val < 19 := (x 0).isLt
  omega

/-- A tile whose number is no row does nothing. -/
theorem idle_body (d : Dev nD) (L : grid1.Coords) (h1 : ¬ k1_cond1 L = 1#1)
    (O : CellTallies nD τ sig (HIx 1)) (W : Waits sig (HIx 1)) (R : sProp 𝕄) :
    iprop(R ∗ scopedBufs (thr d L) ∗ scopedSems0 (thr d L) ∗ owes (thr d L) O W)
      ⊢ wp frame (wpE (defs₀ (F := F)) 𝒱₀ (thr d L) none) Set.univ (body L)
          fun _ => iprop(R ∗ scopedBufs (thr d L) ∗ scopedSems0 (thr d L)
            ∗ ∃ W', ⌜∀ p ∈ W', p ∈ W ∨ p.2 = none ∨ p.2 = some (0 : Fin 1)⌝ ∗ owes (thr d L) O W') := by
  unfold body
  rw [cc1_go_board_sc_eq_skeleton]; unfold cc1_go_board_sc_skel
  have k1_h1 := h1
  iintro ⟨HR, Hsb, Hss, HO⟩
  sl_exec
  sl_step
  isplitl [HR]; · iexact HR
  isplitl [Hsb]; · iexact Hsb
  isplitl [Hss]; · iexact Hss
  iexists W; isplitr
  · ipureintro; exact fun p hp => .inl hp
  · iexact HO

theorem cond_iff (c : Fin 2) (i : Fin 16) : k1_cond1 (coordsV c i) = 1#1 ↔ rowNum c i < 19 := by
  revert c i; decide +kernel

/-- One tile's task: its row of the result array, if it has one, ends at the board after the move. -/
theorem tile_body (hF : (K (F := F)).Facts) (d : Dev nD) (c : Fin 2) (i : Fin 16)
    (O : CellTallies nD τ sig (HIx 1)) (W : Waits sig (HIx 1)) (hO : ∀ g, O g none = 0) (a : Args F) :
    iprop(levAts (K (F := F)).L (K (F := F)).lev ∗ emp ∗ forTile a d c i a.f9
        ∗ scopedBufs (thr d (coordsV c i)) ∗ scopedSems0 (thr d (coordsV c i)) ∗ owes (thr d (coordsV c i)) O W)
      ⊢ wp frame (wpE (defs₀ (F := F)) 𝒱₀ (thr d (coordsV c i)) none) Set.univ (body (coordsV c i))
          fun _ => iprop(forTile a d c i a.out ∗ scopedBufs (thr d (coordsV c i)) ∗ scopedSems0 (thr d (coordsV c i))
            ∗ ∃ W', ⌜∀ p ∈ W', p ∈ W ∨ p.2 = none ∨ p.2 = some (0 : Fin 1)⌝ ∗ owes (thr d (coordsV c i)) O W') := by
  by_cases h1 : k1_cond1 (coordsV c i) = 1#1
  · have e : (outRow (coordsV c i) h1).view.set = rowSet (rowNum c i) := outRow_set _ h1
    have e9 (f : Vec F S19x19x512 .f32) : (loc9 d ↦[rowSet (rowNum c i)]{fullShare} f : sProp 𝕄)
        = (outRow (coordsV c i) h1).view.loc (thr d (coordsV c i)) ↦[(outRow (coordsV c i) h1).view.set]{fullShare} f := by
      rw [e]
    have hb := active_body d (coordsV c i) hF h1 (tileShare c i) O W hO a.f1 a.f4 a.f5 a.f3 a.f6 a.f9
    refine BI.Entails.trans ?_ (hb.trans (wp_mono frame _ _ fun _ => ?_))
    · show (_ : sProp 𝕄) ⊢ _
      unfold forTile inputs
      rw [e9]
      iintro ⟨#Hlv, -, ⟨⟨H1, H4, H5, H3, H6⟩, H9⟩, Hsb, Hss, HO⟩
      isplitr; · iexact Hlv
      isplitl [H1]; · iexact H1
      isplitl [H4]; · iexact H4
      isplitl [H5]; · iexact H5
      isplitl [H3]; · iexact H3
      isplitl [H6]; · iexact H6
      isplitl [H9]; · iexact H9
      isplitl [Hsb]; · iexact Hsb
      isplitl [Hss]; · iexact Hss
      iexact HO
    · unfold forTile inputs
      rw [e9]
      iintro ⟨⟨H1, H4, H5, H3, H6, H9⟩, H⟩
      isplitr [H]
      · isplitr [H9]
        · isplitl [H1]; · iexact H1
          isplitl [H4]; · iexact H4
          isplitl [H5]; · iexact H5
          isplitl [H3]; · iexact H3
          iexact H6
        · iexact H9
      · iexact H
  · have hr : rowSet (rowNum c i) = ∅ := rowSet_idle _ (Nat.le_of_not_lt fun h => h1 ((cond_iff c i).mpr h))
    have e9 : forTile a d c i a.out = forTile a d c i a.f9 := by
      unfold forTile
      rw [hr, pointsTo_empty, pointsTo_empty]
    rw [e9]
    refine BI.Entails.trans ?_ (idle_body d (coordsV c i) h1 O W (forTile a d c i a.f9))
    show (_ : sProp 𝕄) ⊢ _
    iintro ⟨-, -, H⟩
    iexact H

/-! ## The obligation, and the split -/

theorem defs₀_vector (c : Fin τ.nSC) (s : Fin τ.nSub) :
    defs₀ (F := F) (.scVector c s) 1 () = SparseCore.onTile hcore1 hsub1 (fun c s => body (coordsV c s)) ⟨⟩ c s := rfl

theorem tileObl (hF : (K (F := F)).Facts) : (K (F := F)).TileObl (D (F := F)) 𝒱 (P A) v₀ 0 := by
  intro d c i O W hO _ _
  simp only [show (P A).ox = fun _ _ => 0 from rfl, add_zero]
  have hci : ((K (F := F)).core 0 c).val < grid1.bound 0 ∧ ((K (F := F)).sub 0 i).val < grid1.bound 1 := ⟨c.isLt, i.isLt⟩
  change _ ⊢ wp _ _ _ (Pipeline.liftProg (defs₀ (F := F) (.scVector ((K (F := F)).core 0 c) ((K (F := F)).sub 0 i)) 1 ())) _
  refine BI.Entails.trans ?_ (Pipeline.wp_liftProg (D (F := F)) (Pipeline.defs_kernel pcfgs defs₀) 𝒱₀ _ Set.univ none _ _)
  rw [defs₀_vector]; simp only [SparseCore.onTile, hci, and_self, ↓reduceDIte]
  exact tile_body hF d (Fin.cast nCore_zero c) (Fin.cast nSub_zero i) O W hO (A d)

theorem bigSep_tasks (Φ : Fin 16 → sProp 𝕄) :
    (bigSep Finset.univ fun i : Fin ((K (F := F)).nSub 0) => Φ (Fin.cast nSub_zero i)) = bigSep Finset.univ Φ :=
  bigSep_congr fun _ _ => congrArg Φ (Fin.ext rfl)

theorem vecSplit : (K (F := F)).VecSplit' (P A) 0 := by
  intro d c
  show iprop(forCore (A d) d (Fin.cast nCore_zero c) (A d).f9) ⊢ |={Set.univ}=> iprop(
      (bigSep Finset.univ fun i : Fin ((K (F := F)).nSub 0) => forTile (A d) d (Fin.cast nCore_zero c) (Fin.cast nSub_zero i) (A d).f9)
      ∗ ((bigSep Finset.univ fun i : Fin ((K (F := F)).nSub 0) => forTile (A d) d (Fin.cast nCore_zero c) (Fin.cast nSub_zero i) (A d).out)
          -∗ forCore (A d) d (Fin.cast nCore_zero c) (A d).out))
  rw [bigSep_tasks (F := F) (fun i => forTile (A d) d (Fin.cast nCore_zero c) i (A d).f9),
    bigSep_tasks (F := F) (fun i => forTile (A d) d (Fin.cast nCore_zero c) i (A d).out), forCore_tiles, forCore_tiles]
  iintro H; imodintro
  isplitl [H]; · iexact H
  iintro H; iexact H

theorem bigSep_cores (Φ : Fin 2 → sProp 𝕄) :
    (bigSep Finset.univ fun c : Fin ((K (F := F)).nCore 0) => Φ (Fin.cast nCore_zero c)) = bigSep Finset.univ Φ :=
  bigSep_congr fun _ _ => congrArg Φ (Fin.ext rfl)

/-- What the call takes: the operands and the result array, whole. -/
theorem st0_eq (d : Dev nD) : (bigSep Finset.univ fun c : Fin ((K (F := F)).nCore 0) => (P A).st 0 d c)
    = iprop(inputs (A d) d fullShare ∗ loc9 d ↦{fullShare} (A d).f9) :=
  (bigSep_cores (F := F) (fun c => forCore (A d) d c (A d).f9)).trans (whole_cores (A d) d (A d).f9).symm
/-- What the call hands back: the operands, and the result array at the board after the move. -/
theorem dn0_eq (d : Dev nD) : (bigSep Finset.univ fun c : Fin ((K (F := F)).nCore 0) => (P A).dn 0 d c)
    = iprop(inputs (A d) d fullShare ∗ loc9 d ↦{fullShare} (A d).out) :=
  (bigSep_cores (F := F) (fun c => forCore (A d) d c (A d).out)).trans (whole_cores (A d) d (A d).out).symm

end Cert.Proof.KernelIdeal

end
-- ==== Proof.IdealHost.lean ====
/-
  The host operations around the two calls: the two straight lines, what the TensorCore's buffers hold between the
  steps of the main function, and the value of each buffer the calls read or the program returns.
-/
module

public import proofs.«01_k».proof.Proof.IdealRegion
public import proofs.«01_k».proof.Proof.IdealTask

@[expose] public section

set_option maxRecDepth 16384

noncomputable section

namespace Cert.Proof.KernelIdeal

open Cert.KernelIdeal Cert.KernelIdeal.Gen
open Idealize.ShloMosaic Idealize.ShloMosaic.StableHlo
open Idealize.ShloMosaic.SparseCore.Cfg (HIx)
open Idealize.SL.Sem

variable {F : FTy → Type} [FloatOps F]

/-! ## The two lines -/

/-- The operations before the calls. -/
abbrev opsIn : List (HloOp τ sig (Elt F)) :=
  [ StableHlo.unary main_arg1 main_v0 ((transpose S361x361x512 [1, 2, 0] · transposes_S512x361x361_S361x361x512_1_2_0) : (⟨S512x361x361, .f32⟩ : BufTy).Contents (Elt F) → (⟨S361x361x512, .f32⟩ : BufTy).Contents (Elt F)),
    StableHlo.unary main_arg0 main_v1 ((transpose S19x19x512 [1, 2, 0] · transposes_S512x19x19_S19x19x512_1_2_0) : (⟨S512x19x19, .f32⟩ : BufTy).Contents (Elt F) → (⟨S19x19x512, .f32⟩ : BufTy).Contents (Elt F)),
    StableHlo.reshape main_v1 main_v2 (rfl : (.f32 : EltTy) = .f32) shapeCasts_S19x19x512_S361x512,
    StableHlo.unary main_arg6 main_v3 ((transpose S361x512 [1, 0] · transposes_S512x361_S361x512_1_0) : (⟨S512x361, .i32⟩ : BufTy).Contents (Elt F) → (⟨S361x512, .i32⟩ : BufTy).Contents (Elt F)),
    StableHlo.nullary main_c (constantI S_ 32 0#32),
    StableHlo.binary main_v3 main_c main_v4 ((fun x v => pad S368x512 ![0, 0] ![7, 0] ![0, 0] x v pads_S361x512_S368x512_070_000 h_S_) : (⟨S361x512, .i32⟩ : BufTy).Contents (Elt F) → (⟨S_, .i32⟩ : BufTy).Contents (Elt F) → (⟨S368x512, .i32⟩ : BufTy).Contents (Elt F)),
    StableHlo.unary main_arg2 main_v5 ((transpose S2x512 [1, 0] · transposes_S512x2_S2x512_1_0) : (⟨S512x2, .i32⟩ : BufTy).Contents (Elt F) → (⟨S2x512, .i32⟩ : BufTy).Contents (Elt F)),
    StableHlo.unary main_arg7 main_v6 ((transpose S19x19x4x512 [1, 2, 3, 0] · transposes_S512x19x19x4_S19x19x4x512_1_2_3_0) : (⟨S512x19x19x4, .i32⟩ : BufTy).Contents (Elt F) → (⟨S19x19x4x512, .i32⟩ : BufTy).Contents (Elt F)),
    StableHlo.reshape main_arg5 main_v7 (rfl : (.i32 : EltTy) = .i32) shapeCasts_S512_S1x512 ]

/-- The operations after the calls. -/
abbrev opsOut : List (HloOp τ sig (Elt F)) :=
  [ StableHlo.unary main_v9 main_v10 ((transpose S512x19x19 [2, 0, 1] · transposes_S19x19x512_S512x19x19_2_0_1) : (⟨S19x19x512, .f32⟩ : BufTy).Contents (Elt F) → (⟨S512x19x19, .f32⟩ : BufTy).Contents (Elt F)),
    StableHlo.unary main_v8 main_v11 ((transpose S512x361x361 [2, 0, 1] · transposes_S361x361x512_S512x361x361_2_0_1) : (⟨S361x361x512, .f32⟩ : BufTy).Contents (Elt F) → (⟨S512x361x361, .f32⟩ : BufTy).Contents (Elt F)) ]

/-- The two calls and what follows them. -/
abbrev mainTail (d : Dev nD) : Prog (TpuEff nD τ sig (Elt F) (SparseCore.Sig (ΛP (F := F)) 1) .tc) PUnit := do
  Prog.lift (.customCall (SparseCore.inner (Pipeline.entry 0)) ())
  (K (F := F)).run d 0
  seq opsOut

theorem main_eq (d : Dev nD) : main (F := F) d = (seq opsIn >>= fun _ => mainTail d) := by
  rw [seq_bind_seqK]; rfl

/-! ## What the buffers hold -/

section Values

variable (m : (ℓ : Loc nD τ sig) → Buf (Elt F) ℓ)

/-- At launch. -/
def V₀ (d : Dev nD) : Valuation τ sig (Elt F) := fun b => m (d, b)
/-- Before the TensorCore call. -/
def V₁ (d : Dev nD) : Valuation τ sig (Elt F) := after opsIn (V₀ m d)
/-- Before the SparseCore call. -/
def V₂ (d : Dev nD) : Valuation τ sig (Elt F) := afterHist (V₁ m) d

/-- The SparseCore call's operands, and its result array before it. -/
def args (d : Dev nD) : Args F where
  f1 := V₂ m d (Proc.devRef .tc main_v1)
  f4 := V₂ m d (Proc.devRef .tc main_v4)
  f5 := V₂ m d (Proc.devRef .tc main_v5)
  f3 := V₂ m d (Proc.devRef .tc main_arg3)
  f6 := V₂ m d (Proc.devRef .tc main_v6)
  f9 := V₂ m d (Proc.devRef .tc main_v9)

/-- After the SparseCore call. -/
def V₃ (d : Dev nD) : Valuation τ sig (Elt F) := Function.update (V₂ m d) (Proc.devRef .tc main_v9) (args m d).out
/-- At the end. -/
def V₄ (d : Dev nD) : Valuation τ sig (Elt F) := after opsOut (V₃ m d)

theorem V₁_keep (d : Dev nD) (b : Ref sig .tc)
    (h : b ≠ main_v0 ∧ b ≠ main_v1 ∧ b ≠ main_v2 ∧ b ≠ main_v3 ∧ b ≠ main_c ∧ b ≠ main_v4 ∧ b ≠ main_v5 ∧ b ≠ main_v6 ∧ b ≠ main_v7) :
    V₁ m d (Proc.devRef .tc b) = m (d, Proc.devRef .tc b) := by
  obtain ⟨h0, h1, h2, h3, hc, h4, h5, h6, h7⟩ := h
  unfold V₁
  simp only [after_cons, after_nil]
  rw [reshape_result_ne (h := h7), unary_result_ne (h := h6), unary_result_ne (h := h5), binary_result_ne (h := h4),
    nullary_result_ne (h := hc), unary_result_ne (h := h3), reshape_result_ne (h := h2), unary_result_ne (h := h1), unary_result_ne (h := h0)]
  rfl

/-- The program's arguments at launch, as the TensorCore holds them. -/
abbrev arg (d : Dev nD) (b : Ref sig .tc) : Buf (Elt F) ((d.tc : Thread nD τ).loc b) := m ((d.tc : Thread nD τ).loc b)

/-- The history, batch last. -/
abbrev histT (d : Dev nD) : Vec F S361x361x512 .f32 := transpose S361x361x512 [1, 2, 0] (arg m d main_arg1) transposes_S512x361x361_S361x361x512_1_2_0
/-- The board, batch last. -/
abbrev boardT (d : Dev nD) : Vec F S19x19x512 .f32 := transpose S19x19x512 [1, 2, 0] (arg m d main_arg0) transposes_S512x19x19_S19x19x512_1_2_0
/-- The roots, batch last, padded by zeros. -/
abbrev rootsT (d : Dev nD) : Vec F S368x512 .i32 :=
  pad S368x512 ![0, 0] ![7, 0] ![0, 0] (transpose S361x512 [1, 0] (arg m d main_arg6) transposes_S512x361_S361x512_1_0)
    (constantI S_ 32 0#32) pads_S361x512_S368x512_070_000 h_S_
/-- The positions, batch last. -/
abbrev posT (d : Dev nD) : Vec F S2x512 .i32 := transpose S2x512 [1, 0] (arg m d main_arg2) transposes_S512x2_S2x512_1_0
/-- The capture groups, batch last. -/
abbrev groupsT (d : Dev nD) : Vec F S19x19x4x512 .i32 :=
  transpose S19x19x4x512 [1, 2, 3, 0] (arg m d main_arg7) transposes_S512x19x19x4_S19x19x4x512_1_2_3_0

theorem V₁_v0 (d : Dev nD) : V₁ m d (Proc.devRef .tc main_v0) = histT m d := by unfold V₁; after_results; rfl
theorem V₁_v1 (d : Dev nD) : V₁ m d (Proc.devRef .tc main_v1) = boardT m d := by unfold V₁; after_results; rfl
theorem V₁_v2 (d : Dev nD) : V₁ m d (Proc.devRef .tc main_v2) = shapeCast S361x512 (boardT m d) shapeCasts_S19x19x512_S361x512 := by
  unfold V₁; after_results; rfl
theorem V₁_v4 (d : Dev nD) : V₁ m d (Proc.devRef .tc main_v4) = rootsT m d := by unfold V₁; after_results; rfl
theorem V₁_v5 (d : Dev nD) : V₁ m d (Proc.devRef .tc main_v5) = posT m d := by unfold V₁; after_results; rfl
theorem V₁_v6 (d : Dev nD) : V₁ m d (Proc.devRef .tc main_v6) = groupsT m d := by unfold V₁; after_results; rfl
theorem V₁_v7 (d : Dev nD) : V₁ m d (Proc.devRef .tc main_v7) = shapeCast S1x512 (arg m d main_arg5) shapeCasts_S512_S1x512 := by
  unfold V₁; after_results; rfl

/-- The first result: the board after the move, batch first. -/
def boardOut (d : Dev nD) : Vec F S512x19x19 .f32 :=
  transpose S512x19x19 [2, 0, 1] (boardArr (boardT m d) (rootsT m d) (posT m d) (arg m d main_arg3) (groupsT m d))
    transposes_S19x19x512_S512x19x19_2_0_1
/-- The second result: the history after the move, batch first. -/
def histOut (d : Dev nD) : Vec F S512x361x361 .f32 :=
  transpose S512x361x361 [2, 0, 1]
    (histArr (shapeCast S1x512 (arg m d main_arg5) shapeCasts_S512_S1x512) (shapeCast S361x512 (boardT m d) shapeCasts_S19x19x512_S361x512) (histT m d))
    transposes_S361x361x512_S512x361x361_2_0_1

theorem V₃_of_ne (d : Dev nD) {b : Ref sig .tc} (h8 : b ≠ main_v8) (h9 : b ≠ main_v9) : V₃ m d (Proc.devRef .tc b) = V₁ m d (Proc.devRef .tc b) :=
  (Function.update_of_ne (fun e => h9 (Proc.devRef_injective _ e)) _ _).trans (afterHist_of_ne (V₁ m) d fun e => h8 (Proc.devRef_injective _ e))

/-- An argument is as it was at the end. -/
theorem V₄_keep (d : Dev nD) (b : Ref sig .tc)
    (h : b ≠ main_v0 ∧ b ≠ main_v1 ∧ b ≠ main_v2 ∧ b ≠ main_v3 ∧ b ≠ main_c ∧ b ≠ main_v4 ∧ b ≠ main_v5 ∧ b ≠ main_v6 ∧ b ≠ main_v7)
    (h' : b ≠ main_v8 ∧ b ≠ main_v9 ∧ b ≠ main_v10 ∧ b ≠ main_v11) :
    V₄ m d (Proc.devRef .tc b) = m (d, Proc.devRef .tc b) := by
  obtain ⟨h8, h9, h10, h11⟩ := h'
  unfold V₄
  simp only [after_cons, after_nil]
  rw [unary_result_ne (h := h11), unary_result_ne (h := h10), V₃_of_ne m d h8 h9, V₁_keep m d b h]

theorem args_out (d : Dev nD) : (args m d).out = boardArr (boardT m d) (rootsT m d) (posT m d) (arg m d main_arg3) (groupsT m d) := by
  unfold Args.out args V₂
  dsimp only
  rw [afterHist_of_ne (V₁ m) d (b := Proc.devRef .tc main_v1) (by decide), afterHist_of_ne (V₁ m) d (b := Proc.devRef .tc main_v4) (by decide),
    afterHist_of_ne (V₁ m) d (b := Proc.devRef .tc main_v5) (by decide), afterHist_of_ne (V₁ m) d (b := Proc.devRef .tc main_arg3) (by decide),
    afterHist_of_ne (V₁ m) d (b := Proc.devRef .tc main_v6) (by decide), V₁_v1, V₁_v4, V₁_v5, V₁_v6, V₁_keep m d main_arg3 (by decide)]

theorem V₄_v10 (d : Dev nD) : V₄ m d (Proc.devRef .tc main_v10) = boardOut m d := by
  unfold V₄ boardOut
  after_results
  rw [← args_out]
  exact congrArg (fun x => transpose S512x19x19 [2, 0, 1] x transposes_S19x19x512_S512x19x19_2_0_1) (Function.update_self _ _ _)

theorem V₄_v11 (d : Dev nD) : V₄ m d (Proc.devRef .tc main_v11) = histOut m d := by
  unfold V₄ histOut
  after_results
  refine congrArg (fun x => transpose S512x361x361 [2, 0, 1] x transposes_S361x361x512_S512x361x361_2_0_1) ?_
  refine (Function.update_of_ne (by decide) _ _).trans ((afterHist_v8 (V₁ m) d).trans ?_)
  unfold atRefs
  rw [V₁_v7, V₁_v2, V₁_v0]

end Values

end Cert.Proof.KernelIdeal

end
-- ==== Proof.IdealLaunch.lean ====
/-
  The program's run: the ghost state at launch, the main function on the TensorCore (the host operations, the
  TensorCore call, the SparseCore call, the two last operations), and what every buffer of the TensorCore holds at
  the end.
-/
module

public import proofs.«01_k».proof.Proof.IdealHost
public import Idealize.ShloMosaic.Lib.Pipeline.Sound

@[expose] public section

set_option maxRecDepth 16384

noncomputable section

namespace Cert.Proof.KernelIdeal

open Cert.KernelIdeal Cert.KernelIdeal.Gen
open Idealize.ShloMosaic Idealize.ShloMosaic.ValueIdx Idealize.ShloMosaic.TcCoe
open Idealize.ShloMosaic.StableHlo
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (ucRefs cellsGhost toksInit pin)
open Idealize.ShloMosaic.Tactic

variable {F : FTy → Type} [FloatOps F]

local notation "𝕄" => MT nD τ sig (HIx 1) (Elt F) ℕ UU ℕ

variable (m : (ℓ : Loc nD τ sig) → Buf (Elt F) ℓ) (ρ : Dev nD → PrngReg)

/-! ## The launch element -/

/-- The handshakes' rounds and the pipeline's. -/
def u₀ : UU :=
  (initOf (K (F := F)).hsCells (K (F := F)).hsToks,
    (initOf (Pipeline.cells cfgs cellOf_inj) (Pipeline.launchToks cfgs cellOf_inj), 1))

/-- What a TensorCore has of the pipeline's ghost state. -/
abbrev ghost (d : Dev nD) : sProp 𝕄 := iprop(cellsGhost (pin (pcfgs (F := F)) adm) EP 0 d ∗ toksInit (pin (pcfgs (F := F)) adm) EP 0 d)

theorem fund : (BI.own (EP (initOf (Pipeline.cells cfgs cellOf_inj) (Pipeline.launchToks cfgs cellOf_inj))) : sProp 𝕄)
    ⊢ |==> bigSep Finset.univ fun d : Dev nD => ghost d := by
  unfold ghost
  rw [bigSep_sep']
  have e (Φ : Fin 1 → Dev nD → sProp 𝕄) : (bigSep Finset.univ fun d => bigSep Finset.univ fun p => Φ p d) = bigSep Finset.univ fun d => Φ 0 d :=
    bigSep_congr fun d _ => bigSep_univ_of_subsingleton (Φ := fun p => Φ p d) (0 : Fin 1)
  have h := Pipeline.fund_ghost (pin (pcfgs (F := F)) adm) (EP : Emb UP 𝕄) cellOf_inj
  rw [e fun p d => cellsGhost (pin (pcfgs (F := F)) adm) EP p d, e fun p d => toksInit (pin (pcfgs (F := F)) adm) EP p d] at h
  exact h

theorem own_EP (x : UP) : (BI.own ((embR : Emb (UP × Counters) 𝕄) (x, 1)) : sProp 𝕄) ⊢ BI.own (EP x) := .rfl

theorem hu₀ : (ownU (u₀ (F := F)) : sProp 𝕄)
    ⊢ |={Set.univ}=> iprop(BI.own (EH (initOf (K (F := F)).hsCells (K (F := F)).hsToks)) ∗ (bigSep Finset.univ fun d : Dev nD => ghost (F := F) d)
        ∗ bigSep Finset.univ fun thr : Thread nD τ => bigSep Finset.univ fun q : Fin 1 => (P (args m)).x q thr) := by
  unfold u₀
  iintro Hu
  ihave H := (ownU_pair _ _) $$ Hu
  icases H with ⟨HH, HP⟩
  ihave HP := (own_EP _) $$ HP
  imod fund $$ HP with HP
  imodintro
  isplitl [HH]; · iexact HH
  isplitl [HP]; · iexact HP
  unfold P; dsimp only
  rw [show (bigSep Finset.univ fun _ : Thread nD τ => bigSep Finset.univ fun _ : Fin 1 => (iprop(emp) : sProp 𝕄)) = iprop(emp) from
    (bigSep_congr fun _ _ => bigSep_emp_const _).trans (bigSep_emp_const _)]
  iempintro

/-! ## What the calls take out of the TensorCore's buffers -/

/-- The SparseCore call's operands and result, among the TensorCore's buffers. -/
abbrev S6 : Finset (DevRef τ sig) :=
  {Proc.devRef .tc main_v1, Proc.devRef .tc main_v4, Proc.devRef .tc main_v5, Proc.devRef .tc main_arg3, Proc.devRef .tc main_v6,
    Proc.devRef .tc main_v9}

theorem S6_sub : S6 ⊆ ucRefs τ sig := by decide

theorem held_S6 (d : Dev nD) (W : Valuation τ sig (Elt F)) :
    (held (SparseCore.T d) S6 W : sProp 𝕄) = iprop((loc1 d ↦{fullShare} W (Proc.devRef .tc main_v1)) ∗ (loc4 d ↦{fullShare} W (Proc.devRef .tc main_v4))
      ∗ (loc5 d ↦{fullShare} W (Proc.devRef .tc main_v5)) ∗ (loc3 d ↦{fullShare} W (Proc.devRef .tc main_arg3))
      ∗ (loc6 d ↦{fullShare} W (Proc.devRef .tc main_v6)) ∗ (loc9 d ↦{fullShare} W (Proc.devRef .tc main_v9))) := by
  unfold held S6
  rw [SparseCore.bigSep_insert' (by decide), SparseCore.bigSep_insert' (by decide), SparseCore.bigSep_insert' (by decide),
    SparseCore.bigSep_insert' (by decide), SparseCore.bigSep_insert' (by decide), bigSep_singleton]

theorem regroup (a b c e f g r : sProp 𝕄) : iprop((a ∗ b ∗ c ∗ e ∗ f ∗ g) ∗ r) = iprop(((a ∗ b ∗ c ∗ e ∗ f) ∗ g) ∗ r) := by
  have h (x y z : sProp 𝕄) : iprop(x ∗ y ∗ z) = iprop((x ∗ y) ∗ z) := Entails.antisymm BI.sep_assoc' BI.sep_assoc
  rw [h e f g, h c _ g, h b _ g, h a _ g]

/-- Before the SparseCore call. -/
theorem held_before (d : Dev nD) :
    (held (SparseCore.T d) (ucRefs τ sig) (V₂ m d) : sProp 𝕄)
      = iprop((inputs (args m d) d fullShare ∗ loc9 d ↦{fullShare} (args m d).f9) ∗ held (SparseCore.T d) (ucRefs τ sig \ S6) (V₂ m d)) := by
  rw [held_sub_split (SparseCore.T d) S6_sub (V₂ m d), held_S6]
  exact regroup _ _ _ _ _ _ _

/-- After it. -/
theorem held_after (d : Dev nD) :
    (held (SparseCore.T d) (ucRefs τ sig) (V₃ m d) : sProp 𝕄)
      = iprop((inputs (args m d) d fullShare ∗ loc9 d ↦{fullShare} (args m d).out) ∗ held (SparseCore.T d) (ucRefs τ sig \ S6) (V₂ m d)) := by
  have ne {b : Ref sig .tc} (h : b ≠ main_v9) : V₃ m d (Proc.devRef .tc b) = V₂ m d (Proc.devRef .tc b) :=
    Function.update_of_ne (fun e => h (Proc.devRef_injective _ e)) _ _
  rw [held_sub_split (SparseCore.T d) S6_sub (V₃ m d), held_S6, ne (b := main_v1) (by decide), ne (b := main_v4) (by decide),
    ne (b := main_v5) (by decide), ne (b := main_arg3) (by decide), ne (b := main_v6) (by decide),
    show V₃ m d (Proc.devRef .tc main_v9) = (args m d).out from Function.update_self _ _ _,
    held_congr (SparseCore.T d) (V := V₃ m d) (V' := V₂ m d) fun b hb =>
      Function.update_of_ne (fun e => (Finset.mem_sdiff.mp hb).2 (e ▸ by decide)) _ _]
  exact regroup _ _ _ _ _ _ _

/-! ## The main function -/

/-- What the main function leaves: every unscoped buffer at the last valuation. -/
abbrev FIN (d : Dev nD) : sProp 𝕄 := held (SparseCore.T d) (ucRefs τ sig) (V₄ m d)

set_option backward.isDefEq.respectTransparency.types false in
/-- The TensorCore call, in the pipeline's signature. -/
theorem wp_entry [∀ e, Nonempty (Elt F e)] (d : Dev nD) (Φ : PUnit → sProp 𝕄) :
    iprop((iprop(boundary (SparseCore.T d) ∗ held (SparseCore.T d) (ucRefs τ sig) (V₂ m d) ∗ dues d) -∗ Φ ⟨⟩)
        ∗ boundary (SparseCore.T d) ∗ (held (SparseCore.T d) (ucRefs τ sig) (V₁ m d) ∗ dues d) ∗ levAts (K (F := F)).L (K (F := F)).lev ∗ ghost d)
      ⊢ wp frame (wpE (D (F := F)) 𝒱 (SparseCore.T d) none) Set.univ (Prog.lift (.customCall (Pipeline.entry 0) ())) Φ := by
  have h := Pipeline.RegionSeg.wp (pcfgs (F := F)) adm (pdats (V₁ m)) none cellOf_inj EP defs₀ 𝒱₀ (K (F := F)).L (K (F := F)).lev
    (region (V₁ m)) d none (fun u h => nomatch h) (fun _ => .ret ⟨⟩) Φ
  refine BI.Entails.trans ?_ h
  unfold region
  dsimp only
  show (_ : sProp 𝕄) ⊢ _
  iintro ⟨Hk, H⟩
  isplitl [Hk]
  · iintro ⟨Hb, Hh, HO⟩
    rw [wp_ret]; imodintro
    iapply Hk
    isplitl [Hb]; · iexact Hb
    isplitl [Hh]; · iexact Hh
    iexact HO
  iexact H

/-- The TensorCore call, in the program's own signature. -/
theorem wp_hist [∀ e, Nonempty (Elt F e)] (d : Dev nD) (Φ : PUnit → sProp 𝕄) :
    iprop((iprop(boundary (SparseCore.T d) ∗ held (SparseCore.T d) (ucRefs τ sig) (V₂ m d) ∗ dues d) -∗ Φ ⟨⟩)
        ∗ boundary (SparseCore.T d) ∗ (held (SparseCore.T d) (ucRefs τ sig) (V₁ m d) ∗ dues d) ∗ levAts (K (F := F)).L (K (F := F)).lev ∗ ghost d)
      ⊢ wp frame (wpE ((K (F := F)).defs (D (F := F))) 𝒱 (SparseCore.T d) none) Set.univ
          (Prog.lift (.customCall (SparseCore.inner (Pipeline.entry 0)) ())) Φ :=
  (wp_entry m d Φ).trans ((K (F := F)).wp_liftProg (D (F := F)) 𝒱 (SparseCore.T d) (Set.univ : Set ℕ) none (Prog.lift (.customCall (Pipeline.entry 0) ())) Φ)

theorem opsIn_sub : ∀ op ∈ opsIn (F := F), op.bufs ⊆ ucRefs τ sig := by
  rw [← List.forall_iff_forall_mem]
  repeat' apply And.intro
  all_goals exact Pipeline.sub_ucRefs _ (by simp)

theorem opsOut_sub : ∀ op ∈ opsOut (F := F), op.bufs ⊆ ucRefs τ sig := by
  rw [← List.forall_iff_forall_mem]
  repeat' apply And.intro
  all_goals exact Pipeline.sub_ucRefs _ (by simp)

theorem opsIn_fresh : ∀ op ∈ opsIn (F := F), op.fresh = ∅ := by
  rw [← List.forall_iff_forall_mem]
  repeat' apply And.intro
  all_goals rfl

theorem opsOut_fresh : ∀ op ∈ opsOut (F := F), op.fresh = ∅ := by
  rw [← List.forall_iff_forall_mem]
  repeat' apply And.intro
  all_goals rfl

/-- The TensorCore's dues, taken out of its state before the SparseCore call and given back. -/
theorem tcSt_zero (d : Dev nD) : (K (F := F)).tcSt EH d 0 ⊢ iprop(dues d ∗ (dues d -∗ (K (F := F)).tcSt EH d 0) : sProp 𝕄) := by
  unfold SparseCore.Cfg.tcSt
  iintro ⟨HO, H⟩
  isplitl [HO]; · iexact HO
  iintro HO
  isplitl [HO]; · iexact HO
  iexact H

theorem unscoped_held (d : Dev nD) :
    (unscopedBufs d (fun b => m ((SparseCore.T d).loc b)) : sProp 𝕄) = held (SparseCore.T d) (ucRefs τ sig) (V₀ m d) :=
  Pipeline.unscopedBufs_held d (V₀ m d)

theorem hmain [∀ e, Nonempty (Elt F e)] (κ : GSem nD τ sig → ℕ) (d : Dev nD) :
    iprop((K (F := F)).ctx EH (P (args m)) κ ∗ (K (F := F)).tcSt EH d 0 ∗ (K (F := F)).tcRes m ρ d ∗ ghost d)
      ⊢ wp frame (wpE ((K (F := F)).defs (D (F := F))) 𝒱 (SparseCore.T d) none) Set.univ (main d)
          fun _ => iprop((K (F := F)).tcSt EH d 1 ∗ FIN m d ∗ (K (F := F)).tcEnd d) := by
  unfold SparseCore.Cfg.tcRes SparseCore.Cfg.tcEnd
  rw [main_eq, unscoped_held]
  iintro ⟨#Hctx, Hst, ⟨Hb, Hheld, Hts, -⟩, HG⟩
  iapply (wp_seq 𝒱 none Set.univ d (ucRefs τ sig) (fun _ => mainTail d) opsIn opsIn_sub opsIn_fresh (V₀ m d)) $$ [Hb Hheld]
  · isplitl [Hb]; · iexact Hb
    iexact Hheld
  iintro ⟨Hb, Hheld⟩
  ihave #Hlv := (SparseCore.Cfg.ctx_levAts κ) $$ Hctx
  unfold mainTail
  simp only [wp_bind]
  ihave Hst := (tcSt_zero d) $$ Hst
  icases Hst with ⟨HO, Hst⟩
  iapply (wp_hist m d _)
  isplitl [Hst Hts]
  · iintro ⟨Hb, Hheld, HO⟩
    ihave Hst := Hst $$ HO
    ihave Hh := (Entails.of_eq (held_before m d)) $$ Hheld
    icases Hh with ⟨Hin, Hrest⟩
    iapply ((K (F := F)).wp_run (D (F := F)) 𝒱 (EH := EH) (P := P (args m)) κ d 0)
    isplitr; · iexact Hctx
    isplitl [Hst]; · iexact Hst
    isplitl [Hin]; · rw [st0_eq]; iexact Hin
    iintro ⟨Hst, Hdn⟩
    ihave Hdn := (Entails.of_eq (dn0_eq (args m) d)) $$ Hdn
    rw [show (seq opsOut : Prog (TpuEff nD τ sig (Elt F) (SparseCore.Sig (ΛP (F := F)) 1) .tc) PUnit) = (seq opsOut >>= fun u => Pure.pure u) from (bind_pure _).symm]
    iapply (wp_seq 𝒱 none Set.univ d (ucRefs τ sig) (fun u => Pure.pure u) opsOut opsOut_sub opsOut_fresh (V₃ m d)) $$ [Hb Hdn Hrest]
    · isplitl [Hb]; · iexact Hb
      iapply (Entails.of_eq (held_after m d).symm)
      isplitl [Hdn]; · iexact Hdn
      iexact Hrest
    iintro ⟨Hb, Hheld⟩
    rw [wp_pure]; imodintro
    isplitl [Hst]; · iexact Hst
    isplitl [Hheld]; · iexact Hheld
    isplitl [Hb] <;> iassumption
  isplitl [Hb]; · iexact Hb
  isplitl [Hheld HO]
  · isplitl [Hheld]; · iexact Hheld
    iexact HO
  isplitr; · iexact Hlv
  iexact HG

/-! ## The run -/

def fq (d : Dev nD) (s' : Phys nD τ sig (Elt F)) : Prop := ∀ b ∈ ucRefs τ sig, s'.mem.mem (d, b) = V₄ m d b

theorem hfin (d : Dev nD) (s' : Phys nD τ sig (Elt F)) : iprop(FIN m d ∗ SI s') ⊢ (⌜fq m d s'⌝ : sProp 𝕄) := by
  unfold FIN held
  iintro ⟨H, HSI⟩
  ihave %h := (SI_pointsTo_bufs_agree (qs := fun _ => fullShare) (ucRefs τ sig)) $$ [HSI H]
  · isplitl [HSI]; · iexact HSI
    iexact H
  ipureintro
  exact h

/-- At the end every unscoped buffer of the TensorCore is at the last valuation, and every semaphore at zero. -/
def QC : PUnit × MemSt nD τ sig (Elt F) → Prop := fun r =>
  (∀ c : Dev nD, ∀ b ∈ ucRefs τ sig, r.2.mem (c, b) = V₄ m c b) ∧ r.2.sem = fun _ => 0

theorem run_main [∀ e, Nonempty (Elt F e)] :
    θ_run (Cert.KernelIdeal.defs (F := F)) (Cert.KernelIdeal.threads (F := F)) ⟨m, fun _ => 0, ρ⟩ (QC m) :=
  SparseCore.Cfg.θ_run_sc_quiescent (K := K (F := F)) (D := D (F := F)) (𝒱 := 𝒱) (EH := EH) (P := P (args m)) (A := ∅) facts v₀
    (fun q hq => match q with | 0 => nomatch hq)
    (fun q _ => match q with | 0 => tileObl (args m) facts)
    (fun q _ => match q with | 0 => SparseCore.Cfg.VecSplit.of_plain (vecSplit (args m)))
    m ρ main ghost (FIN m) (u₀ (F := F)) (sep_elim_left.trans (hu₀ m)) (hmain m ρ) (fq m) (hfin m) (QC m) (fun _ h hz => ⟨h, hz⟩)

/-- What the program does not write is at the end as it was at launch: `b` is any unscoped buffer that no host operation
    and neither call writes. -/
theorem QC.keep {m : (ℓ : Loc nD τ sig) → Buf (Elt F) ℓ} {r : PUnit × MemSt nD τ sig (Elt F)} (h : QC m r) (c : Dev nD) (b : Ref sig .tc)
    (hu : (Proc.devRef .tc b : DevRef τ sig) ∈ ucRefs τ sig)
    (h₁ : b ≠ main_v0 ∧ b ≠ main_v1 ∧ b ≠ main_v2 ∧ b ≠ main_v3 ∧ b ≠ main_c ∧ b ≠ main_v4 ∧ b ≠ main_v5 ∧ b ≠ main_v6 ∧ b ≠ main_v7)
    (h₂ : b ≠ main_v8 ∧ b ≠ main_v9 ∧ b ≠ main_v10 ∧ b ≠ main_v11) :
    r.2.mem ((c.tc : Thread nD τ).loc b) = m ((c.tc : Thread nD τ).loc b) :=
  (h.1 c _ hu).trans (V₄_keep m c b h₁ h₂)

/-- The eight arguments end as they were. -/
theorem QC.args {m : (ℓ : Loc nD τ sig) → Buf (Elt F) ℓ} {r : PUnit × MemSt nD τ sig (Elt F)} (h : QC m r) (c : Dev nD) :
    r.2.mem ((c.tc : Thread nD τ).loc main_arg0) = m ((c.tc : Thread nD τ).loc main_arg0)
    ∧ r.2.mem ((c.tc : Thread nD τ).loc main_arg1) = m ((c.tc : Thread nD τ).loc main_arg1)
    ∧ r.2.mem ((c.tc : Thread nD τ).loc main_arg2) = m ((c.tc : Thread nD τ).loc main_arg2)
    ∧ r.2.mem ((c.tc : Thread nD τ).loc main_arg3) = m ((c.tc : Thread nD τ).loc main_arg3)
    ∧ r.2.mem ((c.tc : Thread nD τ).loc main_arg4) = m ((c.tc : Thread nD τ).loc main_arg4)
    ∧ r.2.mem ((c.tc : Thread nD τ).loc main_arg5) = m ((c.tc : Thread nD τ).loc main_arg5)
    ∧ r.2.mem ((c.tc : Thread nD τ).loc main_arg6) = m ((c.tc : Thread nD τ).loc main_arg6)
    ∧ r.2.mem ((c.tc : Thread nD τ).loc main_arg7) = m ((c.tc : Thread nD τ).loc main_arg7) :=
  ⟨h.keep c _ (by decide) (by decide) (by decide), h.keep c _ (by decide) (by decide) (by decide), h.keep c _ (by decide) (by decide) (by decide),
    h.keep c _ (by decide) (by decide) (by decide), h.keep c _ (by decide) (by decide) (by decide), h.keep c _ (by decide) (by decide) (by decide),
    h.keep c _ (by decide) (by decide) (by decide), h.keep c _ (by decide) (by decide) (by decide)⟩

/-- The two results at the end. -/
theorem QC.results {m : (ℓ : Loc nD τ sig) → Buf (Elt F) ℓ} {r : PUnit × MemSt nD τ sig (Elt F)} (h : QC m r) (c : Dev nD) :
    r.2.mem ((c.tc : Thread nD τ).loc main_v10) = boardOut m c ∧ r.2.mem ((c.tc : Thread nD τ).loc main_v11) = histOut m c :=
  ⟨(h.1 c (Proc.devRef .tc main_v10) (by decide)).trans (V₄_v10 m c), (h.1 c (Proc.devRef .tc main_v11) (by decide)).trans (V₄_v11 m c)⟩

end Cert.Proof.KernelIdeal

end
-- ==== Proof.RefRead.lean ====
/-
  The reference's gathers and scatters read at one index: which element a gather reads and which element an update of a
  scatter lands on, both by the index words of the update's game.
-/
module

public import proofs.«01_k».proof.Proof.Gen.ReferenceIdeal
public import Idealize.ShloMosaic.Lib.Routing.OpsPair
public import Idealize.ShloMosaic.Lib.Routing.OpsSet
public import Idealize.ShloMosaic.Lib.ValueIdx
public import Idealize.ShloMosaic.Lib.Pipeline.Value

@[expose] public section

set_option maxRecDepth 16384

noncomputable section

namespace Cert.Proof.Reference

open Cert.ReferenceIdeal Cert.ReferenceIdeal.Gen
open Idealize.ShloMosaic Idealize.ShloMosaic.ValueIdx

variable {α : Type}

/-! ## Index words side by side -/

/-- Index words as a column. -/
abbrev column (a : IVec S512 32) : IVec S512x1 32 := broadcastInDim S512x1 ![0] bcast_S512_S512x1_0 a

/-- Two columns of index words. -/
def pair (a b : IVec S512 32) : IVec S512x2 32 :=
  concatenate S512x2 1 [⟨S512x1, column a⟩, ⟨S512x1, column b⟩] concatenates_S512x1_S512x1_S512x2_d1

/-- Three columns of index words. -/
def triple (a b c : IVec S512 32) : IVec S512x3 32 :=
  concatenate S512x3 1 [⟨S512x1, column a⟩, ⟨S512x1, column b⟩, ⟨S512x1, column c⟩] concatenates_S512x1_S512x1_S512x1_S512x3_d1

/-- A vector spread down a column, at an index of game `l`. -/
theorem column_apply {w : Nat} (a : IVec S512 w) (l : Fin 512) (j : S512x1.Idx) (hj : (j 0).val = l.val) :
    broadcastInDim S512x1 ![0] bcast_S512_S512x1_0 a j = a (ix1 l) :=
  broadcastInDim_apply _ _ _ _ _ (by intro x; fin_cases x; exact hj.symm)

theorem pair_zero (a b : IVec S512 32) (l : Fin 512) : pair a b (ix2 l 0) = a (ix1 l) :=
  (concatenate_apply_piece (t := S512x2) 1 [⟨S512x1, column a⟩, ⟨S512x1, column b⟩] _ (ix2 l 0) 0
    (by decide : 0 < 2) S512x1 (column a) rfl rfl 0 rfl (ix2 l 0) (by intro b hb; fin_cases b; exacts [rfl, absurd rfl hb]) rfl).trans
    (column_apply a l (ix2 l 0) rfl)

theorem pair_one (a b : IVec S512 32) (l : Fin 512) : pair a b (ix2 l 1) = b (ix1 l) :=
  (concatenate_apply_piece (t := S512x2) 1 [⟨S512x1, column a⟩, ⟨S512x1, column b⟩] _ (ix2 l 1) 1
    (by decide : 1 < 2) S512x1 (column b) rfl rfl 1 rfl (ix2 l 0) (by intro b hb; fin_cases b; exacts [rfl, absurd rfl hb]) rfl).trans
    (column_apply b l (ix2 l 0) rfl)

theorem triple_zero (a b c : IVec S512 32) (l : Fin 512) : triple a b c (ix2 l 0) = a (ix1 l) :=
  (concatenate_apply_piece (t := S512x3) 1 [⟨S512x1, column a⟩, ⟨S512x1, column b⟩, ⟨S512x1, column c⟩] _ (ix2 l 0) 0
    (by decide : 0 < 3) S512x1 (column a) rfl rfl 0 rfl (ix2 l 0) (by intro b hb; fin_cases b; exacts [rfl, absurd rfl hb]) rfl).trans
    (column_apply a l (ix2 l 0) rfl)

theorem triple_one (a b c : IVec S512 32) (l : Fin 512) : triple a b c (ix2 l 1) = b (ix1 l) :=
  (concatenate_apply_piece (t := S512x3) 1 [⟨S512x1, column a⟩, ⟨S512x1, column b⟩, ⟨S512x1, column c⟩] _ (ix2 l 1) 1
    (by decide : 1 < 3) S512x1 (column b) rfl rfl 1 rfl (ix2 l 0) (by intro b hb; fin_cases b; exacts [rfl, absurd rfl hb]) rfl).trans
    (column_apply b l (ix2 l 0) rfl)

theorem triple_two (a b c : IVec S512 32) (l : Fin 512) : triple a b c (ix2 l 2) = c (ix1 l) :=
  (concatenate_apply_piece (t := S512x3) 1 [⟨S512x1, column a⟩, ⟨S512x1, column b⟩, ⟨S512x1, column c⟩] _ (ix2 l 2) 2
    (by decide : 2 < 3) S512x1 (column c) rfl rfl 2 rfl (ix2 l 0) (by intro b hb; fin_cases b; exacts [rfl, absurd rfl hb]) rfl).trans
    (column_apply c l (ix2 l 0) rfl)

/-! ## Gathers -/

theorem gather_hist (x : S512x361x361.Idx → α) (idx : IVec S512x2 32) (l : Fin 512) (q : Fin 361) (b : Fin 512) (p : Fin 361)
    (h0 : min (idx (ix2 l 0)).toInt.toNat 511 = b.val) (h1 : min (idx (ix2 l 1)).toInt.toNat 360 = p.val) :
    Host.gather gather_S512x361x361_S512x2_S512x361_1_01_n_n_01_1_11361 x idx (ix2 l q) = x (ix3 b p q) := by
  have e : ∀ k : Fin 2, gather_S512x361x361_S512x2_S512x361_1_01_n_n_01_1_11361.siIdx (ix2 l q) k = ix2 l k := fun k => by
    funext b; apply Fin.ext
    match b with
    | ⟨0, _⟩ => rfl
    | ⟨1, _⟩ => rfl
  unfold Host.gather
  refine congrArg x (funext fun a => Fin.ext ?_)
  match a with
  | ⟨0, _⟩ => exact (congrArg (fun i => min (idx i).toInt.toNat 511) (e 0)).trans h0
  | ⟨1, _⟩ => exact (congrArg (fun i => min (idx i).toInt.toNat 360) (e 1)).trans h1
  | ⟨2, _⟩ => exact Nat.zero_add _

theorem gather_cell (x : S512x19x19.Idx → α) (idx : IVec S512x3 32) (l b : Fin 512) (r c : Fin 19)
    (h0 : min (idx (ix2 l 0)).toInt.toNat 511 = b.val) (h1 : min (idx (ix2 l 1)).toInt.toNat 18 = r.val)
    (h2 : min (idx (ix2 l 2)).toInt.toNat 18 = c.val) :
    Host.gather gather_S512x19x19_S512x3_S512_n_012_n_n_012_1_111 x idx (ix1 l) = x (ix3 b r c) := by
  have e : ∀ k : Fin 3, gather_S512x19x19_S512x3_S512_n_012_n_n_012_1_111.siIdx (ix1 l) k = ix2 l k := fun k => by
    funext b; apply Fin.ext
    match b with
    | ⟨0, _⟩ => rfl
    | ⟨1, _⟩ => rfl
  unfold Host.gather
  refine congrArg x (funext fun a => Fin.ext ?_)
  match a with
  | ⟨0, _⟩ => exact (congrArg (fun i => min (idx i).toInt.toNat 511) (e 0)).trans h0
  | ⟨1, _⟩ => exact (congrArg (fun i => min (idx i).toInt.toNat 18) (e 1)).trans h1
  | ⟨2, _⟩ => exact (congrArg (fun i => min (idx i).toInt.toNat 18) (e 2)).trans h2

theorem gather_groups (x : S512x19x19x4.Idx → α) (idx : IVec S512x3 32) (l : Fin 512) (k : Fin 4) (b : Fin 512) (r c : Fin 19)
    (h0 : min (idx (ix2 l 0)).toInt.toNat 511 = b.val) (h1 : min (idx (ix2 l 1)).toInt.toNat 18 = r.val)
    (h2 : min (idx (ix2 l 2)).toInt.toNat 18 = c.val) :
    Host.gather gather_S512x19x19x4_S512x3_S512x4_1_012_n_n_012_1_1114 x idx (ix2 l k) = x (ix4 b r c k) := by
  have e : ∀ c : Fin 3, gather_S512x19x19x4_S512x3_S512x4_1_012_n_n_012_1_1114.siIdx (ix2 l k) c = ix2 l c := fun c => by
    funext b; apply Fin.ext
    match b with
    | ⟨0, _⟩ => rfl
    | ⟨1, _⟩ => rfl
  unfold Host.gather
  refine congrArg x (funext fun a => Fin.ext ?_)
  match a with
  | ⟨0, _⟩ => exact (congrArg (fun i => min (idx i).toInt.toNat 511) (e 0)).trans h0
  | ⟨1, _⟩ => exact (congrArg (fun i => min (idx i).toInt.toNat 18) (e 1)).trans h1
  | ⟨2, _⟩ => exact (congrArg (fun i => min (idx i).toInt.toNat 18) (e 2)).trans h2
  | ⟨3, _⟩ => exact Nat.zero_add _

/-! ## Scatters -/

theorem scatter_hist_lands (idx : IVec S512x2 32) (l b : Fin 512) (q q' p : Fin 361) :
    scatter_S512x361x361_S512x2_S512x361_1_01_01_1.resultIdx? (ix2 l q) idx = some (ix3 b p q')
      ↔ (idx (ix2 l 0)).toInt = (b.val : Int) ∧ (idx (ix2 l 1)).toInt = (p.val : Int) ∧ q = q' := by
  have e : ∀ k : Fin 2, scatter_S512x361x361_S512x2_S512x361_1_01_01_1.siIdx (ix2 l q) k = ix2 l k := fun k => by
    funext b; apply Fin.ext
    match b with
    | ⟨0, _⟩ => rfl
    | ⟨1, _⟩ => rfl
  rw [Routing.resultIdx?_eq_some]
  have h0 : scatter_S512x361x361_S512x2_S512x361_1_01_01_1.start (ix2 l q) idx 0
      + (scatter_S512x361x361_S512x2_S512x361_1_01_01_1.window (ix2 l q) 0 : Int) = (idx (ix2 l 0)).toInt :=
    (Int.add_zero _).trans (congrArg (fun i => (idx i).toInt) (e 0))
  have h1 : scatter_S512x361x361_S512x2_S512x361_1_01_01_1.start (ix2 l q) idx 1
      + (scatter_S512x361x361_S512x2_S512x361_1_01_01_1.window (ix2 l q) 1 : Int) = (idx (ix2 l 1)).toInt :=
    (Int.add_zero _).trans (congrArg (fun i => (idx i).toInt) (e 1))
  have h2 : scatter_S512x361x361_S512x2_S512x361_1_01_01_1.start (ix2 l q) idx 2
      + (scatter_S512x361x361_S512x2_S512x361_1_01_01_1.window (ix2 l q) 2 : Int) = (q.val : Int) := Int.zero_add _
  constructor
  · intro h
    exact ⟨h0.symm.trans (h 0), h1.symm.trans (h 1), Fin.ext (Int.ofNat.inj (h2.symm.trans (h 2)))⟩
  · rintro ⟨a0, a1, rfl⟩ a
    match a with
    | ⟨0, _⟩ => exact h0.trans a0
    | ⟨1, _⟩ => exact h1.trans a1
    | ⟨2, _⟩ => exact h2

theorem scatter_cell_lands (idx : IVec S512x3 32) (l b : Fin 512) (r c : Fin 19) :
    scatter_S512x19x19_S512x3_S512_n_012_012_1.resultIdx? (ix1 l) idx = some (ix3 b r c)
      ↔ (idx (ix2 l 0)).toInt = (b.val : Int) ∧ (idx (ix2 l 1)).toInt = (r.val : Int) ∧ (idx (ix2 l 2)).toInt = (c.val : Int) := by
  have e : ∀ k : Fin 3, scatter_S512x19x19_S512x3_S512_n_012_012_1.siIdx (ix1 l) k = ix2 l k := fun k => by
    funext b; apply Fin.ext
    match b with
    | ⟨0, _⟩ => rfl
    | ⟨1, _⟩ => rfl
  rw [Routing.resultIdx?_eq_some]
  have h : ∀ k : Fin 3, scatter_S512x19x19_S512x3_S512_n_012_012_1.start (ix1 l) idx k
      + (scatter_S512x19x19_S512x3_S512_n_012_012_1.window (ix1 l) k : Int) = (idx (ix2 l k)).toInt := fun k => by
    fin_cases k
    · exact (Int.add_zero _).trans (congrArg (fun i => (idx i).toInt) (e 0))
    · exact (Int.add_zero _).trans (congrArg (fun i => (idx i).toInt) (e 1))
    · exact (Int.add_zero _).trans (congrArg (fun i => (idx i).toInt) (e 2))
  constructor
  · intro h'
    exact ⟨(h 0).symm.trans (h' 0), (h 1).symm.trans (h' 1), (h 2).symm.trans (h' 2)⟩
  · rintro ⟨a0, a1, a2⟩ a
    match a with
    | ⟨0, _⟩ => exact (h 0).trans a0
    | ⟨1, _⟩ => exact (h 1).trans a1
    | ⟨2, _⟩ => exact (h 2).trans a2

end Cert.Proof.Reference

end
-- ==== Proof.Ref.lean ====
/-
  The reference's two results, each read at one index.
-/
module

public import proofs.«01_k».proof.Proof.RefRead
public import proofs.«01_k».proof.Proof.IdealValues
public import proofs.«01_k».proof.Proof.Gen.ReferenceIdeal.Run

@[expose] public section

set_option maxRecDepth 16384

noncomputable section

namespace Cert.Proof.Reference

open Cert.ReferenceIdeal Cert.ReferenceIdeal.Gen
open Idealize.ShloMosaic Idealize.ShloMosaic.ValueIdx
open Cert.Proof.KernelIdeal (clip clip_lt clipFin cellVal)

variable {F : FTy → Type} [FloatOps F]

/-- A choice on a one-bit word that states `P`. -/
theorem select_iff {α : Type} {c : BitVec 1} {P : Prop} [Decidable P] (h : c = 1#1 ↔ P) (a b : α) :
    Scalar.select c a b = if P then a else b := if_congr h rfl rfl

/-! ## Index words -/

/-- Index words with `n` added where they are negative. -/
def wrap (n : BitVec 32) (x : IVec S512 32) : IVec S512 32 :=
  select (cmpi .slt x (broadcastInDim S512 ![] bcast_S_S512 (constantI S_ 32 0#32)))
    (addi x (broadcastInDim S512 ![] bcast_S_S512 (constantI S_ 32 n))) x

theorem wrap_apply (n : BitVec 32) (x : IVec S512 32) (l : Fin 512) (h : (x (ix1 l)).toNat < 2 ^ 31) : wrap n x (ix1 l) = x (ix1 l) :=
  Routing.wrap_of_lt _ _ h

/-- Index words clipped to 0 … `hi`. -/
def clipTo (hi : BitVec 32) (x : IVec S512 32) : IVec S512 32 :=
  minsi (broadcastInDim S512 ![] bcast_S_S512 (id (constantI S_ 32 hi))) (maxsi (broadcastInDim S512 ![] bcast_S_S512 (id (constantI S_ 32 0#32))) x)

/-- The games' numbers. -/
abbrev games : IVec S512 32 := iotaInDim S512 32 0

theorem game_toInt (l : Fin 512) : (wrap 512#32 games (ix1 l)).toInt = (l.val : Int) := by
  have h : games (ix1 l) = BitVec.ofNat 32 l.val := rfl
  have hl := l.isLt
  rw [wrap_apply _ _ _ (by rw [h, BitVec.toNat_ofNat]; omega), h, StableHlo.Predicate.toInt_ofNat_small _ (by omega)]

theorem clip_toInt (v : BitVec 32) : (clip v).toInt = ((clipFin v).val : Int) := by
  have := clip_lt v
  rw [StableHlo.Predicate.toInt_eq_toNat_of_lt (by omega)]; rfl

/-- A move count that is not negative, clipped to 0 … 360. -/
theorem count_clip (v : BitVec 32) (h : v.toNat < 2 ^ 31) :
    IntOp.minsi 360#32 (IntOp.maxsi 0#32 v) = if v.toNat < 361 then v else 360#32 := by
  have hi := StableHlo.Predicate.toInt_eq_toNat_of_lt h
  have h0 : (0#32 : BitVec 32).toInt = 0 := by decide
  have h360 : (360#32 : BitVec 32).toInt = 360 := by decide
  unfold IntOp.minsi IntOp.maxsi
  have e : ¬ v.slt 0#32 := by rw [BitVec.slt_iff_toInt_lt, h0, hi]; omega
  rw [if_neg e]
  by_cases hv : v.toNat < 361
  · rw [if_pos hv]
    by_cases h3 : (360#32 : BitVec 32).slt v
    · rw [BitVec.slt_iff_toInt_lt, h360, hi] at h3; omega
    · rw [if_neg h3]
  · rw [if_neg hv, if_pos (by rw [BitVec.slt_iff_toInt_lt, h360, hi]; omega)]

/-! ## The history -/

/-- The history's scatter indices: game and clipped move count. -/
def histIdx (a5 : IVec S512 32) : IVec S512x2 32 := pair (wrap 512#32 games) (wrap 361#32 (clipTo 360#32 a5))

/-- The history result. -/
def hist (a0 : FVec F S512x19x19 .f32) (a1 : FVec F S512x361x361 .f32) (a5 : IVec S512 32) : FVec F S512x361x361 .f32 :=
  Host.scatter scatter_S512x361x361_S512x2_S512x361_1_01_01_1 (fun _ b => b) a1 (histIdx a5)
    (select (broadcastInDim S512x361 ![0, 1] bcast_S512x1_S512x361_0_1 (broadcastInDim S512x1 ![0] bcast_S512_S512x1_0
        (cmpi .slt a5 (broadcastInDim S512 ![] bcast_S_S512 (constantI S_ 32 361#32)))))
      (shapeCast _ a0 shapeCasts_S512x19x19_S512x361)
      (Host.gather gather_S512x361x361_S512x2_S512x361_1_01_n_n_01_1_11361 a1 (histIdx a5)))

theorem hist_apply (a0 : FVec F S512x19x19 .f32) (a1 : FVec F S512x361x361 .f32) (a5 : IVec S512 32) (b : Fin 512) (p q : Fin 361)
    (h : (a5 (ix1 b)).toNat < 2 ^ 31) :
    hist a0 a1 a5 (ix3 b p q)
      = if BitVec.ofNat 32 p.val = a5 (ix1 b) then shapeCast S512x361 a0 shapeCasts_S512x19x19_S512x361 (ix2 b q) else a1 (ix3 b p q) := by
  have hp := p.isLt
  have hb := b.isLt
  have i0 : ∀ l : Fin 512, (histIdx a5 (ix2 l 0)).toInt = (l.val : Int) := fun l => by
    unfold histIdx; rw [pair_zero]; exact game_toInt l
  have c1 : clipTo 360#32 a5 (ix1 b) = if (a5 (ix1 b)).toNat < 361 then a5 (ix1 b) else 360#32 := count_clip _ h
  have i1 : histIdx a5 (ix2 b 1) = if (a5 (ix1 b)).toNat < 361 then a5 (ix1 b) else 360#32 := by
    unfold histIdx
    rw [pair_one, wrap_apply _ _ _ ?_, c1]
    rw [c1]; split
    · exact h
    · decide
  have hlt : IntOp.cmpi .slt (a5 (ix1 b)) 361#32 = 1#1 ↔ (a5 (ix1 b)).toNat < 361 := StableHlo.Predicate.slt_iff_toNat h (by decide)
  -- what game `b` writes
  have hu : ∀ q : Fin 361, (select (broadcastInDim S512x361 ![0, 1] bcast_S512x1_S512x361_0_1 (broadcastInDim S512x1 ![0] bcast_S512_S512x1_0
        (cmpi .slt a5 (broadcastInDim S512 ![] bcast_S_S512 (constantI S_ 32 361#32)))))
      (shapeCast _ a0 shapeCasts_S512x19x19_S512x361)
      (Host.gather gather_S512x361x361_S512x2_S512x361_1_01_n_n_01_1_11361 a1 (histIdx a5)) : FVec F S512x361 .f32) (ix2 b q)
      = if (a5 (ix1 b)).toNat < 361 then shapeCast S512x361 a0 shapeCasts_S512x19x19_S512x361 (ix2 b q) else a1 (ix3 b (360 : Fin 361) q) := fun q => by
    have hc : broadcastInDim S512x361 ![0, 1] bcast_S512x1_S512x361_0_1 (broadcastInDim S512x1 ![0] bcast_S512_S512x1_0
        (cmpi .slt a5 (broadcastInDim S512 ![] bcast_S_S512 (constantI S_ 32 361#32)))) (ix2 b q) = IntOp.cmpi .slt (a5 (ix1 b)) 361#32 := by
      rw [broadcastInDim_apply _ _ _ (ix2 b q) (ix2 b 0) (by intro x; fin_cases x <;> rfl), column_apply _ b _ rfl]
      rfl
    show Scalar.select (broadcastInDim S512x361 ![0, 1] bcast_S512x1_S512x361_0_1 (broadcastInDim S512x1 ![0] bcast_S512_S512x1_0
        (cmpi .slt a5 (broadcastInDim S512 ![] bcast_S_S512 (constantI S_ 32 361#32)))) (ix2 b q)) _ _ = _
    rw [hc, select_iff hlt]
    by_cases hv : (a5 (ix1 b)).toNat < 361
    · rw [if_pos hv, if_pos hv]
    · rw [if_neg hv, if_neg hv]
      exact gather_hist _ _ _ _ b 360 (by rw [i0]; omega) (by rw [i1, if_neg hv]; decide)
  by_cases hit : (histIdx a5 (ix2 b 1)).toInt = (p.val : Int)
  · refine (Routing.scatter_set_hit _ a1 _ _ (ix3 b p q) _ (fun k hk => ?_) (ix2 b q) ((scatter_hist_lands _ _ _ _ _ _).2 ⟨i0 b, hit, rfl⟩)).trans
      (?_ : (if (a5 (ix1 b)).toNat < 361 then shapeCast S512x361 a0 shapeCasts_S512x19x19_S512x361 (ix2 b q) else a1 (ix3 b (360 : Fin 361) q)) = _)
    · obtain ⟨l, q', rfl⟩ : ∃ (l : Fin 512) (q' : Fin 361), k = ix2 l q' := ⟨k 0, k 1, eq_ix2 k⟩
      obtain ⟨k0, k1, rfl⟩ := (scatter_hist_lands _ _ _ _ _ _).1 hk
      rw [i0] at k0
      obtain rfl : l = b := Fin.ext (Int.ofNat.inj k0)
      exact hu _
    · rw [i1] at hit
      by_cases hv : (a5 (ix1 b)).toNat < 361
      · rw [if_pos hv] at hit ⊢
        rw [StableHlo.Predicate.toInt_eq_toNat_of_lt h] at hit
        rw [if_pos]
        refine BitVec.eq_of_toNat_eq ?_
        rw [BitVec.toNat_ofNat]; omega
      · rw [if_neg hv] at hit ⊢
        have e360 : (360#32 : BitVec 32).toInt = 360 := by decide
        rw [e360] at hit
        rw [if_neg (fun e => hv (by rw [← e, BitVec.toNat_ofNat]; omega))]
        have : p = (360 : Fin 361) := Fin.ext (by show p.val = 360; omega)
        rw [this]
  · rw [if_neg]
    · refine Routing.scatter_set_miss _ a1 _ _ (ix3 b p q) fun k hk => hit ?_
      obtain ⟨l, q', rfl⟩ : ∃ (l : Fin 512) (q' : Fin 361), k = ix2 l q' := ⟨k 0, k 1, eq_ix2 k⟩
      obtain ⟨k0, k1, rfl⟩ := (scatter_hist_lands _ _ _ _ _ _).1 hk
      rw [i0] at k0
      obtain rfl : l = b := Fin.ext (Int.ofNat.inj k0)
      exact k1
    · intro e
      refine hit ?_
      have hv : (a5 (ix1 b)).toNat < 361 := by rw [← e, BitVec.toNat_ofNat]; omega
      rw [i1, if_pos hv, ← e, StableHlo.Predicate.toInt_ofNat_small _ (by omega)]

/-! ## The board -/

/-- A coordinate of the positions. -/
def coord (k : Fin 2) (a2 : IVec S512x2 32) : IVec S512 32 :=
  match k with
  | 0 => shapeCast _ (extractStridedSlice S512x1 ![0, 0] a2 slices_S512x2_S512x1_0_0) shapeCasts_S512x1_S512
  | 1 => shapeCast _ (extractStridedSlice S512x1 ![0, 1] a2 slices_S512x2_S512x1_0_1) shapeCasts_S512x1_S512

theorem coord_apply (k : Fin 2) (a2 : IVec S512x2 32) (l : Fin 512) : coord k a2 (ix1 l) = a2 (ix2 l k) := by
  fin_cases k
  · refine (shapeCast_apply _ _ (ix1 l) (ix2 l 0) ?_).trans (extractStridedSlice_apply _ _ _ (ix2 l 0) (ix2 l 0) (by intro x; fin_cases x <;> simp))
    rw [Shape.rowMajor_val_two, Shape.rowMajor_val_one]; simp
  · refine (shapeCast_apply _ _ (ix1 l) (ix2 l 0) ?_).trans (extractStridedSlice_apply _ _ _ (ix2 l 0) (ix2 l 1) (by intro x; fin_cases x <;> simp))
    rw [Shape.rowMajor_val_two, Shape.rowMajor_val_one]; simp

/-- The board's gather and scatter indices: game and clipped position. -/
def cellIdx (a2 : IVec S512x2 32) : IVec S512x3 32 :=
  triple (wrap 512#32 games) (wrap 19#32 (clipTo 18#32 (coord 0 a2))) (wrap 19#32 (clipTo 18#32 (coord 1 a2)))

/-- Which games play. -/
def plays (a2 : IVec S512x2 32) : IVec S512 1 :=
  noti (ori (cmpi .slt (coord 0 a2) (broadcastInDim S512 ![] bcast_S_S512 (constantI S_ 32 0#32)))
    (cmpi .slt (coord 1 a2) (broadcastInDim S512 ![] bcast_S_S512 (constantI S_ 32 0#32))))

/-- The groups next to the moves. -/
def near (a2 : IVec S512x2 32) (a7 : IVec S512x19x19x4 32) : IVec S512x1x4 32 :=
  broadcastInDim S512x1x4 ![0, 2] bcast_S512x4_S512x1x4_0_2
    (Host.gather gather_S512x19x19x4_S512x3_S512x4_1_012_n_n_012_1_1114 a7 (cellIdx a2))

/-- Which cells' groups are next to the moves. -/
def hits (a2 : IVec S512x2 32) (a6 : IVec S512x361 32) (a7 : IVec S512x19x19x4 32) : IVec S512x361x4 1 :=
  andi (cmpi .eq (broadcastInDim S512x361x4 ![0, 1, 2] bcast_S512x361x1_S512x361x4_0_1_2 (broadcastInDim S512x361x1 ![0, 1] bcast_S512x361_S512x361x1_0_1 a6))
      (broadcastInDim S512x361x4 ![0, 1, 2] bcast_S512x1x4_S512x361x4_0_1_2 (near a2 a7)))
    (broadcastInDim S512x361x4 ![0, 1, 2] bcast_S512x1x4_S512x361x4_0_1_2
      (cmpi .sge (near a2 a7) (broadcastInDim S512x1x4 ![] bcast_S_S512x1x4 (constantI S_ 32 0#32))))

/-- The board with the moves' stones. -/
def placed (a0 : FVec F S512x19x19 .f32) (a2 : IVec S512x2 32) (a3 : IVec S512 32) : FVec F S512x19x19 .f32 :=
  Host.scatter scatter_S512x19x19_S512x3_S512_n_012_012_1 (fun _ b => b) a0 (cellIdx a2)
    (select (plays a2) (sitofp .f32 a3) (Host.gather gather_S512x19x19_S512x3_S512_n_012_n_n_012_1_111 a0 (cellIdx a2)))

/-- The board result. -/
def board (a0 : FVec F S512x19x19 .f32) (a2 : IVec S512x2 32) (a3 : IVec S512 32) (a6 : IVec S512x361 32)
    (a7 : IVec S512x19x19x4 32) : FVec F S512x19x19 .f32 :=
  select (andi (shapeCast _ (Host.reduce IntOp.ori (hits a2 a6 a7) (constantI S_ 1 0#1) reducesTo_S512x361x4_S512x361_d2 h_S_) shapeCasts_S512x361_S512x19x19)
      (broadcastInDim S512x19x19 ![0, 1, 2] bcast_S512x1x1_S512x19x19_0_1_2 (broadcastInDim S512x1x1 ![0] bcast_S512_S512x1x1_0 (plays a2))))
    (broadcastInDim S512x19x19 ![] bcast_S_S512x19x19 (constant S_ .f32 0xBF800000#32)) (placed a0 a2 a3)

theorem cellIdx_zero (a2 : IVec S512x2 32) (l : Fin 512) : (cellIdx a2 (ix2 l 0)).toInt = (l.val : Int) := by
  unfold cellIdx; rw [triple_zero]; exact game_toInt l

theorem clipped_apply (k : Fin 2) (a2 : IVec S512x2 32) (l : Fin 512) :
    wrap 19#32 (clipTo 18#32 (coord k a2)) (ix1 l) = clip (a2 (ix2 l k)) := by
  have h : clipTo 18#32 (coord k a2) (ix1 l) = clip (a2 (ix2 l k)) := by rw [← coord_apply k a2 l]; rfl
  have := clip_lt (a2 (ix2 l k))
  rw [wrap_apply _ _ _ (by rw [h]; omega), h]

theorem cellIdx_one (a2 : IVec S512x2 32) (l : Fin 512) : cellIdx a2 (ix2 l 1) = clip (a2 (ix2 l 0)) := by
  unfold cellIdx; rw [triple_one]; exact clipped_apply 0 a2 l

theorem cellIdx_two (a2 : IVec S512x2 32) (l : Fin 512) : cellIdx a2 (ix2 l 2) = clip (a2 (ix2 l 1)) := by
  unfold cellIdx; rw [triple_two]; exact clipped_apply 1 a2 l

/-- The three coordinates a gather by `cellIdx` reads at. -/
theorem cell_at (a2 : IVec S512x2 32) (l : Fin 512) :
    min (cellIdx a2 (ix2 l 0)).toInt.toNat 511 = l.val ∧ min (cellIdx a2 (ix2 l 1)).toInt.toNat 18 = (clipFin (a2 (ix2 l 0))).val
      ∧ min (cellIdx a2 (ix2 l 2)).toInt.toNat 18 = (clipFin (a2 (ix2 l 1))).val := by
  have hl := l.isLt
  have h0 := (clipFin (a2 (ix2 l 0))).isLt
  have h1 := (clipFin (a2 (ix2 l 1))).isLt
  rw [cellIdx_zero, cellIdx_one, cellIdx_two, clip_toInt, clip_toInt]
  omega

theorem plays_apply (a2 : IVec S512x2 32) (l : Fin 512) :
    plays a2 (ix1 l) = IntOp.andi (IntOp.cmpi .sge (a2 (ix2 l 0)) 0#32) (IntOp.cmpi .sge (a2 (ix2 l 1)) 0#32) := by
  have h : plays a2 (ix1 l) = ~~~ (IntOp.ori (IntOp.cmpi .slt (a2 (ix2 l 0)) 0#32) (IntOp.cmpi .slt (a2 (ix2 l 1)) 0#32)) := by
    rw [← coord_apply 0 a2 l, ← coord_apply 1 a2 l]; rfl
  rw [h]
  show ~~~ (BitVec.ofBool ((a2 (ix2 l 0)).slt 0#32) ||| BitVec.ofBool ((a2 (ix2 l 1)).slt 0#32))
    = BitVec.ofBool ((0#32).sle (a2 (ix2 l 0))) &&& BitVec.ofBool ((0#32).sle (a2 (ix2 l 1)))
  rw [BitVec.sle_eq_not_slt, BitVec.sle_eq_not_slt]
  cases (a2 (ix2 l 0)).slt 0#32 <;> cases (a2 (ix2 l 1)).slt 0#32 <;> rfl

theorem near_apply (a2 : IVec S512x2 32) (a7 : IVec S512x19x19x4 32) (l : Fin 512) (k : Fin 4) :
    near a2 a7 (ix3 l 0 k) = a7 (ix4 l (clipFin (a2 (ix2 l 0))) (clipFin (a2 (ix2 l 1))) k) := by
  obtain ⟨e0, e1, e2⟩ := cell_at a2 l
  unfold near
  rw [broadcastInDim_apply _ _ _ (ix3 l 0 k) (ix2 l k) (by intro x; fin_cases x <;> rfl), gather_groups _ _ l k _ _ _ e0 e1 e2]

theorem hits_apply (a2 : IVec S512x2 32) (a6 : IVec S512x361 32) (a7 : IVec S512x19x19x4 32) (l : Fin 512) (n : Fin 361) (k : Fin 4) :
    hits a2 a6 a7 (ix3 l n k)
      = IntOp.andi (IntOp.cmpi .eq (a6 (ix2 l n)) (a7 (ix4 l (clipFin (a2 (ix2 l 0))) (clipFin (a2 (ix2 l 1))) k)))
          (IntOp.cmpi .sge (a7 (ix4 l (clipFin (a2 (ix2 l 0))) (clipFin (a2 (ix2 l 1))) k)) 0#32) := by
  rw [← near_apply a2 a7 l k]
  unfold hits andi cmpi
  rw [broadcastInDim_apply _ _ _ (ix3 l n k) (ix3 l n 0) (by intro x; fin_cases x <;> rfl),
    broadcastInDim_apply _ _ _ (ix3 l n 0) (ix2 l n) (by intro x; fin_cases x <;> rfl),
    broadcastInDim_apply _ _ (near a2 a7) (ix3 l n k) (ix3 l 0 k) (by intro x; fin_cases x <;> rfl),
    broadcastInDim_apply _ _ _ (ix3 l n k) (ix3 l 0 k) (by intro x; fin_cases x <;> rfl)]
  rfl

/-- A disjunction over the four neighbours. -/
theorem reduce_hits (x : IVec S512x361x4 1) (l : Fin 512) (n : Fin 361) :
    Host.reduce IntOp.ori x (constantI S_ 1 0#1) reducesTo_S512x361x4_S512x361_d2 h_S_ (ix2 l n)
      = IntOp.ori (IntOp.ori (IntOp.ori (x (ix3 l n 0)) (x (ix3 l n 1))) (x (ix3 l n 2))) (x (ix3 l n 3)) := by
  have h : S512x361x4.Reduces [2] S512x361 := by decide
  haveI : Std.Commutative (IntOp.ori : BitVec 1 → BitVec 1 → BitVec 1) := ⟨BitVec.or_comm⟩
  haveI : Std.Associative (IntOp.ori : BitVec 1 → BitVec 1 → BitVec 1) := ⟨BitVec.or_assoc⟩
  rw [Host.reduce_eq_fold_single IntOp.ori x _ reducesTo_S512x361x4_S512x361_d2 h h_S_]
  have hl : ∀ k : Fin 4, h.lift (ix2 l n) k = ix3 l n k := fun k => by
    funext a; apply Fin.ext
    match a with
    | ⟨0, _⟩ => rfl
    | ⟨1, _⟩ => rfl
    | ⟨2, _⟩ => rfl
  have hu : (Finset.univ : Finset (Fin 4)) = {0, 1, 2, 3} := rfl
  have hf : ∀ f : Fin 4 → BitVec 1, (Finset.univ : Finset (Fin 4)).fold IntOp.ori 0#1 f
      = IntOp.ori (IntOp.ori (IntOp.ori (f 0) (f 1)) (f 2)) (f 3) := fun f => by
    rw [hu, Finset.fold_insert (by decide), Finset.fold_insert (by decide), Finset.fold_insert (by decide), Finset.fold_singleton]
    show f 0 ||| (f 1 ||| (f 2 ||| (f 3 ||| 0#1))) = f 0 ||| f 1 ||| f 2 ||| f 3
    rw [BitVec.or_zero, BitVec.or_assoc, BitVec.or_assoc]
  refine (hf _).trans ?_
  simp only [Function.comp, hl]

theorem placed_apply (a0 : FVec F S512x19x19 .f32) (a2 : IVec S512x2 32) (a3 : IVec S512 32) (l : Fin 512) (r c : Fin 19) :
    placed a0 a2 a3 (ix3 l r c)
      = Scalar.select (IntOp.andi (IntOp.andi (plays a2 (ix1 l)) (IntOp.cmpi .eq (clip (a2 (ix2 l 0))) (BitVec.ofNat 32 r.val)))
            (IntOp.cmpi .eq (clip (a2 (ix2 l 1))) (BitVec.ofNat 32 c.val)))
          (FloatOps.sitofp .f32 (a3 (ix1 l))) (a0 (ix3 l r c)) := by
  obtain ⟨e0, e1, e2⟩ := cell_at a2 l
  -- what game `l` writes
  have hu : select (plays a2) (sitofp .f32 a3) (Host.gather gather_S512x19x19_S512x3_S512_n_012_n_n_012_1_111 a0 (cellIdx a2)) (ix1 l)
      = Scalar.select (plays a2 (ix1 l)) (FloatOps.sitofp .f32 (a3 (ix1 l))) (a0 (ix3 l (clipFin (a2 (ix2 l 0))) (clipFin (a2 (ix2 l 1))))) := by
    show Scalar.select _ _ (Host.gather _ _ _ _) = _
    rw [gather_cell _ _ l _ _ _ e0 e1 e2]
    rfl
  have hcell : ∀ (v : BitVec 32) (x : Fin 19), IntOp.cmpi .eq (clip v) (BitVec.ofNat 32 x.val) = 1#1 ↔ clipFin v = x := fun v x => by
    have hv := clip_lt v
    have hx := x.isLt
    rw [StableHlo.Predicate.cmpi_eq_iff]
    constructor
    · intro e; refine Fin.ext ?_
      show (clip v).toNat = x.val
      rw [e, BitVec.toNat_ofNat]; omega
    · rintro rfl
      refine BitVec.eq_of_toNat_eq ?_
      show (clip v).toNat = (BitVec.ofNat 32 (clip v).toNat).toNat
      rw [BitVec.toNat_ofNat]; omega
  have and_one : ∀ x : BitVec 1, IntOp.andi x 1#1 = x := fun x => by
    show x &&& 1#1 = x
    have : (1#1 : BitVec 1) = BitVec.allOnes 1 := by decide
    rw [this, BitVec.and_allOnes]
  have and_zero : ∀ x : BitVec 1, IntOp.andi x 0#1 = 0#1 := fun x => BitVec.and_zero
  have zero_and : ∀ x : BitVec 1, IntOp.andi 0#1 x = 0#1 := fun x => BitVec.zero_and
  have ne_one : ∀ x : BitVec 1, x ≠ 1#1 → x = 0#1 := by decide
  unfold placed
  by_cases h : clipFin (a2 (ix2 l 0)) = r ∧ clipFin (a2 (ix2 l 1)) = c
  · rw [(hcell _ _).2 h.1, (hcell _ _).2 h.2, and_one, and_one]
    obtain ⟨rfl, rfl⟩ := h
    refine Routing.scatter_set_hit _ a0 _ _ _ _ (fun k hk => ?_) (ix1 l) ((scatter_cell_lands _ _ _ _ _).2
      ⟨cellIdx_zero a2 l, by rw [cellIdx_one, clip_toInt], by rw [cellIdx_two, clip_toInt]⟩)
    obtain ⟨l', rfl⟩ : ∃ l' : Fin 512, k = ix1 l' := ⟨k 0, eq_ix1 k⟩
    have k0 := ((scatter_cell_lands _ _ _ _ _).1 hk).1
    rw [cellIdx_zero] at k0
    obtain rfl : l' = l := Fin.ext (Int.ofNat.inj k0)
    exact hu
  · have hz : IntOp.andi (IntOp.andi (plays a2 (ix1 l)) (IntOp.cmpi .eq (clip (a2 (ix2 l 0))) (BitVec.ofNat 32 r.val)))
        (IntOp.cmpi .eq (clip (a2 (ix2 l 1))) (BitVec.ofNat 32 c.val)) = 0#1 := by
      by_cases hr : clipFin (a2 (ix2 l 0)) = r
      · rw [ne_one (IntOp.cmpi .eq (clip (a2 (ix2 l 1))) (BitVec.ofNat 32 c.val)) (fun e => h ⟨hr, (hcell _ _).1 e⟩), and_zero]
      · rw [ne_one (IntOp.cmpi .eq (clip (a2 (ix2 l 0))) (BitVec.ofNat 32 r.val)) (fun e => hr ((hcell _ _).1 e)), and_zero, zero_and]
    rw [hz]
    refine (Routing.scatter_set_miss _ a0 _ _ _ fun k hk => h ?_).trans (if_neg (by decide)).symm
    obtain ⟨l', rfl⟩ : ∃ l' : Fin 512, k = ix1 l' := ⟨k 0, eq_ix1 k⟩
    obtain ⟨k0, k1, k2⟩ := (scatter_cell_lands _ _ _ _ _).1 hk
    rw [cellIdx_zero] at k0
    obtain rfl : l' = l := Fin.ext (Int.ofNat.inj k0)
    rw [cellIdx_one, clip_toInt] at k1
    rw [cellIdx_two, clip_toInt] at k2
    exact ⟨Fin.ext (Int.ofNat.inj k1), Fin.ext (Int.ofNat.inj k2)⟩

/-- The board result at a cell. -/
theorem board_apply (a0 : FVec F S512x19x19 .f32) (a2 : IVec S512x2 32) (a3 : IVec S512 32) (a6 : IVec S512x361 32)
    (a7 : IVec S512x19x19x4 32) (l : Fin 512) (r c : Fin 19) (n : Fin 361) (hn : n.val = 19 * r.val + c.val) :
    board a0 a2 a3 a6 a7 (ix3 l r c)
      = cellVal (F := F) (BitVec.ofNat 32 r.val) (BitVec.ofNat 32 c.val) (a2 (ix2 l 0)) (a2 (ix2 l 1)) (a3 (ix1 l)) (a6 (ix2 l n))
          (a7 (ix4 l (clipFin (a2 (ix2 l 0))) (clipFin (a2 (ix2 l 1))) 0)) (a7 (ix4 l (clipFin (a2 (ix2 l 0))) (clipFin (a2 (ix2 l 1))) 1))
          (a7 (ix4 l (clipFin (a2 (ix2 l 0))) (clipFin (a2 (ix2 l 1))) 2)) (a7 (ix4 l (clipFin (a2 (ix2 l 0))) (clipFin (a2 (ix2 l 1))) 3))
          (a0 (ix3 l r c)) := by
  have hp : broadcastInDim S512x19x19 ![0, 1, 2] bcast_S512x1x1_S512x19x19_0_1_2 (broadcastInDim S512x1x1 ![0] bcast_S512_S512x1x1_0 (plays a2)) (ix3 l r c)
      = plays a2 (ix1 l) := by
    rw [broadcastInDim_apply _ _ _ (ix3 l r c) (ix3 l 0 0) (by intro x; fin_cases x <;> rfl),
      broadcastInDim_apply _ _ _ (ix3 l 0 0) (ix1 l) (by intro x; fin_cases x; rfl)]
  have hh : shapeCast S512x19x19 (Host.reduce IntOp.ori (hits a2 a6 a7) (constantI S_ 1 0#1) reducesTo_S512x361x4_S512x361_d2 h_S_)
        shapeCasts_S512x361_S512x19x19 (ix3 l r c)
      = Host.reduce IntOp.ori (hits a2 a6 a7) (constantI S_ 1 0#1) reducesTo_S512x361x4_S512x361_d2 h_S_ (ix2 l n) := by
    refine shapeCast_apply _ _ _ _ ?_
    rw [Shape.rowMajor_val_two, Shape.rowMajor_val_three]
    show l.val * 361 + n.val = (l.val * 19 + r.val) * 19 + c.val
    omega
  unfold board
  show Scalar.select (IntOp.andi (shapeCast S512x19x19 _ _ (ix3 l r c)) (broadcastInDim S512x19x19 _ _ _ (ix3 l r c)))
    (FloatOps.ofBits .f32 0xBF800000#32) (placed a0 a2 a3 (ix3 l r c)) = _
  rw [hp, hh, reduce_hits, placed_apply, plays_apply, hits_apply, hits_apply, hits_apply, hits_apply]
  unfold cellVal
  dsimp only
  have andi_comm : ∀ x y : BitVec 1, IntOp.andi x y = IntOp.andi y x := fun x y => BitVec.and_comm x y
  exact congrArg (fun w => Scalar.select w _ _) (andi_comm _ _)

end Cert.Proof.Reference

end
-- ==== Proof.Agree.lean ====
/-
  The kernel's two results are the reference's: the board at every cell, and the history at every entry where the move
  count is not negative.
-/
module

public import proofs.«01_k».proof.Proof.Ref
public import proofs.«01_k».proof.Proof.IdealHost
public import proofs.«01_k».proof.Pre_in_range
public import proofs.«01_k».proof.Proof.Gen.Pre_in_range
public import Idealize.ShloMosaic.Lib.KernelVsHost

@[expose] public section

set_option maxRecDepth 16384

noncomputable section

namespace Cert.Proof.KernelIdeal

open Cert.KernelIdeal Cert.KernelIdeal.Gen
open Idealize.ShloMosaic Idealize.ShloMosaic.ValueIdx

variable {F : FTy → Type} [FloatOps F] (m : (ℓ : Loc nD τ sig) → Buf (Elt F) ℓ)

theorem boardT_apply (d : Dev nD) (r c : Fin 19) (l : Fin 512) : boardT m d (ix3 r c l) = arg m d main_arg0 (ix3 l r c) :=
  transpose_apply _ _ _ _ _ fun b => match b with | ⟨0, _⟩ => rfl | ⟨1, _⟩ => rfl | ⟨2, _⟩ => rfl

theorem histT_apply (d : Dev nD) (p q : Fin 361) (l : Fin 512) : histT m d (ix3 p q l) = arg m d main_arg1 (ix3 l p q) :=
  transpose_apply _ _ _ _ _ fun b => match b with | ⟨0, _⟩ => rfl | ⟨1, _⟩ => rfl | ⟨2, _⟩ => rfl

theorem posT_apply (d : Dev nD) (k : Fin 2) (l : Fin 512) : posT m d (ix2 k l) = arg m d main_arg2 (ix2 l k) :=
  transpose_apply _ _ _ _ _ fun b => match b with | ⟨0, _⟩ => rfl | ⟨1, _⟩ => rfl

theorem groupsT_apply (d : Dev nD) (r c : Fin 19) (k : Fin 4) (l : Fin 512) :
    groupsT m d (ix4 r c k l) = arg m d main_arg7 (ix4 l r c k) :=
  transpose_apply _ _ _ _ _ fun b => match b with | ⟨0, _⟩ => rfl | ⟨1, _⟩ => rfl | ⟨2, _⟩ => rfl | ⟨3, _⟩ => rfl

theorem rootsT_apply (d : Dev nD) (n : Fin 361) (n' : Fin 368) (hn : n'.val = n.val) (l : Fin 512) :
    rootsT m d (ix2 n' l) = arg m d main_arg6 (ix2 l n) := by
  refine (pad_apply_of_inside _ _ _ _ _ _ _ (ix2 n' l) (ix2 n l) ?_).trans
    (transpose_apply _ _ _ _ _ fun b => match b with | ⟨0, _⟩ => rfl | ⟨1, _⟩ => rfl)
  intro a
  match a with
  | ⟨0, _⟩ => show n'.val = 0 + n.val * (0 + 1); omega
  | ⟨1, _⟩ => show l.val = 0 + l.val * (0 + 1); omega

/-- The board result is the reference's. -/
theorem boardOut_eq (d : Dev nD) :
    boardOut m d = Cert.Proof.Reference.board (F := F) (arg m d main_arg0) (arg m d main_arg2) (arg m d main_arg3) (arg m d main_arg6) (arg m d main_arg7) := by
  funext i
  obtain ⟨l, r, c, rfl⟩ : ∃ (l : Fin 512) (r c : Fin 19), i = ix3 l r c := ⟨i 0, i 1, i 2, eq_ix3 i⟩
  have hr := r.isLt
  have hc := c.isLt
  refine Eq.trans ?_ (Cert.Proof.Reference.board_apply (F := F) _ _ _ _ _ l r c ⟨19 * r.val + c.val, by omega⟩ rfl).symm
  have ht : boardOut m d (ix3 l r c) = boardVal (boardT m d) (rootsT m d) (posT m d) (arg m d main_arg3) (groupsT m d) r c l :=
    transpose_apply _ _ _ (ix3 l r c) (ix3 r c l) fun b => match b with | ⟨0, _⟩ => rfl | ⟨1, _⟩ => rfl | ⟨2, _⟩ => rfl
  rw [ht]
  unfold boardVal grp
  rw [rootsT_apply m d ⟨19 * r.val + c.val, by omega⟩ _ rfl, boardT_apply, posT_apply, posT_apply, groupsT_apply, groupsT_apply, groupsT_apply,
    groupsT_apply]

/-- The history result is the reference's. -/
theorem histOut_eq (d : Dev nD) (h : ∀ l : Fin 512, ((arg m d main_arg5 : IVec S512 32) (ix1 l)).toNat < 2 ^ 31) :
    histOut m d = Cert.Proof.Reference.hist (F := F) (arg m d main_arg0) (arg m d main_arg1) (arg m d main_arg5) := by
  funext i
  obtain ⟨l, p, q, rfl⟩ : ∃ (l : Fin 512) (p q : Fin 361), i = ix3 l p q := ⟨i 0, i 1, i 2, eq_ix3 i⟩
  have hq := q.isLt
  refine Eq.trans ?_ (Cert.Proof.Reference.hist_apply (F := F) _ _ _ l p q (h l)).symm
  have ht : histOut m d (ix3 l p q) = histArr (shapeCast S1x512 (arg m d main_arg5) shapeCasts_S512_S1x512)
      (shapeCast S361x512 (boardT m d) shapeCasts_S19x19x512_S361x512) (histT m d) (ix3 p q l) :=
    transpose_apply _ _ _ (ix3 l p q) (ix3 p q l) fun b => match b with | ⟨0, _⟩ => rfl | ⟨1, _⟩ => rfl | ⟨2, _⟩ => rfl
  rw [ht]
  have h5 : shapeCast S1x512 (arg m d main_arg5) shapeCasts_S512_S1x512 (ix2 0 l) = arg m d main_arg5 (ix1 l) := shapeCast_a_1a_apply _ _ _ _
  have hb : shapeCast S361x512 (boardT m d) shapeCasts_S19x19x512_S361x512 (ix2 q l)
      = shapeCast Cert.ReferenceIdeal.S512x361 (arg m d main_arg0) Cert.ReferenceIdeal.Gen.shapeCasts_S512x19x19_S512x361 (ix2 l q) := by
    have hr : q.val / 19 < 19 := by omega
    have hc : q.val % 19 < 19 := by omega
    rw [shapeCast_apply (boardT m d) shapeCasts_S19x19x512_S361x512 (ix2 q l) (ix3 (⟨q.val / 19, hr⟩ : Fin 19) (⟨q.val % 19, hc⟩ : Fin 19) l) ?_,
      boardT_apply]
    · refine (shapeCast_apply _ _ _ _ ?_).symm
      rw [Shape.rowMajor_val_three, Shape.rowMajor_val_two]
      show (l.val * 19 + q.val / 19) * 19 + q.val % 19 = l.val * 361 + q.val
      omega
    · rw [Shape.rowMajor_val_three, Shape.rowMajor_val_two]
      show (q.val / 19 * 19 + q.val % 19) * 512 + l.val = q.val * 512 + l.val
      omega
  show (if BitVec.ofNat 32 p.val = shapeCast S1x512 (arg m d main_arg5) shapeCasts_S512_S1x512 (ix2 0 l)
    then shapeCast S361x512 (boardT m d) shapeCasts_S19x19x512_S361x512 (ix2 q l) else histT m d (ix3 p q l)) = _
  rw [h5, hb, histT_apply]

/-- The precondition's meaning: no move count is negative. -/
theorem of_in_range (a0 : FVec F Cert.Pre_in_range.S512x19x19 .f32) (a1 : FVec F Cert.Pre_in_range.S512x361x361 .f32)
    (a2 : IVec Cert.Pre_in_range.S512x2 32) (a3 a4 a5 : IVec Cert.Pre_in_range.S512 32) (a6 : IVec Cert.Pre_in_range.S512x361 32)
    (a7 : IVec Cert.Pre_in_range.S512x19x19x4 32) (h : Cert.Pre_in_range.fn (F := F) a0 a1 a2 a3 a4 a5 a6 a7 = fun _ => 1#1) (l : Fin 512) :
    (a5 (ix1 l)).toNat < 2 ^ 31 := by
  haveI : Std.Commutative (IntOp.andi : BitVec 1 → BitVec 1 → BitVec 1) := ⟨BitVec.and_comm⟩
  haveI : Std.Associative (IntOp.andi : BitVec 1 → BitVec 1 → BitVec 1) := ⟨BitVec.and_assoc⟩
  have hall : ∀ (s : Finset (Cert.Pre_in_range.S512.Idx)) (f : Cert.Pre_in_range.S512.Idx → BitVec 1), s.fold IntOp.andi 1#1 f = 1#1 → ∀ i ∈ s, f i = 1#1 := by
    intro s f
    induction s using Finset.induction_on with
    | empty => exact fun _ i hi => absurd hi (Finset.notMem_empty i)
    | insert a s ha ih =>
      intro e i hi
      rw [Finset.fold_insert ha] at e
      have both : ∀ x y : BitVec 1, x &&& y = 1#1 → x = 1#1 ∧ y = 1#1 := by decide
      obtain ⟨ea, es⟩ := both _ _ e
      rcases Finset.mem_insert.1 hi with rfl | hi
      · exact ea
      · exact ih es i hi
  have h0 := congrFun h (fun a => a.elim0)
  change Host.reduce IntOp.andi _ _ _ _ _ = 1#1 at h0
  rw [Host.reduce_eq_fold] at h0
  have hl := hall _ _ h0 (ix1 l) (Finset.mem_filter.2 ⟨Finset.mem_univ _, funext fun a => a.elim0⟩)
  change BitVec.ofBool ((0#32).sle (a5 (ix1 l))) = 1#1 at hl
  rw [StableHlo.Predicate.ofBool_eq_one_iff, BitVec.sle_iff_toInt_le] at hl
  have h0' : (0#32 : BitVec 32).toInt = 0 := by decide
  rw [h0'] at hl
  have := (a5 (ix1 l)).toInt_eq_toNat_cond
  split at this <;> omega

end Cert.Proof.KernelIdeal

end
-- ==== Proof.lean ====
/- The claims about the kernel, from the runs of its two readings (`Launch`, `IdealLaunch`), the reference's run, and the
   equality of the results (`Agree`). -/
module

public import proofs.«01_k».proof.Defs
public import proofs.«01_k».proof.Proof.Gen.Kernel
public import proofs.«01_k».proof.Proof.Gen.KernelIdeal
public import proofs.«01_k».proof.Proof.Gen.ReferenceIdeal
public import proofs.«01_k».proof.Proof.Gen.ReferenceIdeal.Run
public import proofs.«01_k».proof.Proof.Gen.Pre_in_range
public import proofs.«01_k».proof.Proof.Launch
public import proofs.«01_k».proof.Proof.IdealLaunch
public import proofs.«01_k».proof.Proof.Agree
public import Idealize.ShloMosaic.Adequacy
public import Idealize.ShloMosaic.Init

@[expose] public section

set_option maxRecDepth 16384

noncomputable section

namespace Cert.Proof

open Idealize.ShloMosaic Idealize.ShloMosaic.ValueIdx Idealize.SL.Sem

/-- The reference is host operations alone: it has no semaphore, and its arguments end unchanged. -/
theorem reference_frame (m : (ℓ : Loc Cert.ReferenceIdeal.nD Cert.ReferenceIdeal.τ Cert.ReferenceIdeal.sig) → Buf (Elt Ideal) ℓ)
    (g : Dev Cert.ReferenceIdeal.nD → PrngReg) :
    θ_run (Cert.ReferenceIdeal.defs (F := Ideal)) (onTc (τ := Cert.ReferenceIdeal.τ) (Cert.ReferenceIdeal.main (F := Ideal))) ⟨m, fun _ => 0, g⟩
      (fun r => (∀ c : Dev Cert.ReferenceIdeal.nD,
        r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
        ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
        ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
        ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
        ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
        ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
        ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
        ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))
        ∧ r.2.sem = fun _ => 0) :=
  (θ_run _ _ _).mono (fun r h => ⟨fun c => (h c).2.2, sem_eq_zero_of_no_sems (by decide) r.2⟩) (Cert.ReferenceIdeal.Value.run (F := Ideal) m g)

theorem algebraic : Cert.algebraic_KernelIdeal_ReferenceIdeal_pre_in_range (hKernelIdeal := Cert.KernelIdeal.Gen.facts)
    (hReferenceIdeal := Cert.ReferenceIdeal.Gen.facts) (hPre_in_range := Cert.Pre_in_range.Gen.facts) := by
  intro m g m' g' hpre hagree
  refine ⟨fun c => KernelIdeal.boardOut m c, fun c => KernelIdeal.histOut m c, ?_, ?_⟩
  · exact (θ_run _ _ _).mono (fun r h c => ⟨(h.results c).1, (h.results c).2, h.args c⟩) (KernelIdeal.run_main m g)
  · refine (θ_run _ _ _).mono (fun r h c => ?_) (Cert.ReferenceIdeal.Value.run (F := Ideal) m' g')
    obtain ⟨hb, hh, hargs⟩ := h c
    obtain ⟨e0, e1, e2, e3, -, e5, e6, e7⟩ := hagree c
    refine ⟨?_, ?_, hargs⟩
    · refine Eq.trans (b := Reference.board (F := Ideal) (m' ((c.tc : Thread Cert.ReferenceIdeal.nD Cert.ReferenceIdeal.τ).loc Cert.ReferenceIdeal.main_arg0))
        (m' ((c.tc : Thread Cert.ReferenceIdeal.nD Cert.ReferenceIdeal.τ).loc Cert.ReferenceIdeal.main_arg2))
        (m' ((c.tc : Thread Cert.ReferenceIdeal.nD Cert.ReferenceIdeal.τ).loc Cert.ReferenceIdeal.main_arg3))
        (m' ((c.tc : Thread Cert.ReferenceIdeal.nD Cert.ReferenceIdeal.τ).loc Cert.ReferenceIdeal.main_arg6))
        (m' ((c.tc : Thread Cert.ReferenceIdeal.nD Cert.ReferenceIdeal.τ).loc Cert.ReferenceIdeal.main_arg7))) hb ?_
      rw [e0, e2, e3, e6, e7]
      exact (KernelIdeal.boardOut_eq m c).symm
    · refine Eq.trans (b := Reference.hist (F := Ideal) (m' ((c.tc : Thread Cert.ReferenceIdeal.nD Cert.ReferenceIdeal.τ).loc Cert.ReferenceIdeal.main_arg0))
        (m' ((c.tc : Thread Cert.ReferenceIdeal.nD Cert.ReferenceIdeal.τ).loc Cert.ReferenceIdeal.main_arg1))
        (m' ((c.tc : Thread Cert.ReferenceIdeal.nD Cert.ReferenceIdeal.τ).loc Cert.ReferenceIdeal.main_arg5))) hh ?_
      rw [e0, e1, e5]
      exact (KernelIdeal.histOut_eq m c fun l => KernelIdeal.of_in_range _ _ _ _ _ _ _ _ (hpre c) l).symm

theorem claim : Cert.Claim :=
  ⟨Cert.Kernel.Gen.facts, Cert.KernelIdeal.Gen.facts, Cert.ReferenceIdeal.Gen.facts, Cert.Pre_in_range.Gen.facts,
    fun m g _ => (θ_run _ _ _).mono (fun _ h => ⟨fun c => h.args c, h.2⟩) (Kernel.run_main m g),
    fun m g _ => (θ_run _ _ _).mono (fun _ h => ⟨fun c => h.args c, h.2⟩) (KernelIdeal.run_main m g),
    fun m g _ => (θ_run _ _ _).mono (fun _ h => ⟨fun c => h.args c, h.2⟩) (KernelIdeal.run_main m g),
    fun m g _ => reference_frame m g,
    fun m g _ => reference_frame m g,
    trivial,
    algebraic⟩

end Cert.Proof

end
